-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S1x128x3072 : Shape := ⟨3, ![1, 128, 3072]⟩
abbrev S3072x16x192 : Shape := ⟨3, ![3072, 16, 192]⟩
abbrev S16x2x320x96 : Shape := ⟨4, ![16, 2, 320, 96]⟩
abbrev S1x128x16x12 : Shape := ⟨4, ![1, 128, 16, 12]⟩
abbrev S_ : Shape := ⟨0, ![]⟩

class Facts : Prop where
  bcast_S_S1x128x16x12 : S_.BroadcastsInDim S1x128x16x12 (![] : Fin 0 → Fin S1x128x16x12.rank)

variable [Facts]

def fn {F : FTy → Type} [FloatOps F] (main_arg0 : FVec F S1x128x3072 .bf16) (main_arg1 : FVec F S3072x16x192 .bf16) (main_arg2 : FVec F S16x2x320x96 .bf16) (main_arg3 : IVec S1x128x16x12 32) (main_arg4 : IVec S1x128x16x12 32) : IVec S1x128x16x12 1 :=
  let main_c : IVec S_ 32 := constantI S_ 32 0#32
  let main_v0 : IVec S1x128x16x12 32 := broadcastInDim S1x128x16x12 ![] bcast_S_S1x128x16x12 main_c
  let main_v1 : IVec S1x128x16x12 1 := cmpi .sge main_arg3 main_v0
  let main_c_0 : IVec S_ 32 := constantI S_ 32 320#32
  let main_v2 : IVec S1x128x16x12 32 := broadcastInDim S1x128x16x12 ![] bcast_S_S1x128x16x12 main_c_0
  let main_v3 : IVec S1x128x16x12 1 := cmpi .slt main_arg3 main_v2
  let main_v4 : IVec S1x128x16x12 1 := andi main_v1 main_v3
  let main_c_1 : IVec S_ 32 := constantI S_ 32 0#32
  let main_v5 : IVec S1x128x16x12 32 := broadcastInDim S1x128x16x12 ![] bcast_S_S1x128x16x12 main_c_1
  let main_v6 : IVec S1x128x16x12 1 := cmpi .sge main_arg4 main_v5
  let main_v7 : IVec S1x128x16x12 1 := andi main_v4 main_v6
  let main_c_2 : IVec S_ 32 := constantI S_ 32 320#32
  let main_v8 : IVec S1x128x16x12 32 := broadcastInDim S1x128x16x12 ![] bcast_S_S1x128x16x12 main_c_2
  let main_v9 : IVec S1x128x16x12 1 := cmpi .slt main_arg4 main_v8
  let main_v10 : IVec S1x128x16x12 1 := andi main_v7 main_v9
  main_v10
-- ==== Kernel.lean ====
abbrev S1x128x3072 : Shape := ⟨3, ![1, 128, 3072]⟩
abbrev S3072x16x192 : Shape := ⟨3, ![3072, 16, 192]⟩
abbrev S16x2x320x96 : Shape := ⟨4, ![16, 2, 320, 96]⟩
abbrev S1x128x16x12 : Shape := ⟨4, ![1, 128, 16, 12]⟩
abbrev S128x16x12 : Shape := ⟨3, ![128, 16, 12]⟩
abbrev S12x16x128 : Shape := ⟨3, ![12, 16, 128]⟩
abbrev S128x3072 : Shape := ⟨2, ![128, 3072]⟩
abbrev S16x192x3072 : Shape := ⟨3, ![16, 192, 3072]⟩
abbrev S16x2x96x320 : Shape := ⟨4, ![16, 2, 96, 320]⟩
abbrev S192x128 : Shape := ⟨2, ![192, 128]⟩
abbrev S4x192x3072 : Shape := ⟨3, ![4, 192, 3072]⟩
abbrev S4x2x96x320 : Shape := ⟨4, ![4, 2, 96, 320]⟩
abbrev S2x2x128x128 : Shape := ⟨4, ![2, 2, 128, 128]⟩
abbrev S2x128x128 : Shape := ⟨3, ![2, 128, 128]⟩
abbrev S256x128 : Shape := ⟨2, ![256, 128]⟩
abbrev S128x128 : Shape := ⟨2, ![128, 128]⟩
abbrev S12x1x128 : Shape := ⟨3, ![12, 1, 128]⟩
abbrev S12x128 : Shape := ⟨2, ![12, 128]⟩
abbrev S1x1x128x128 : Shape := ⟨4, ![1, 1, 128, 128]⟩
abbrev S1x128x128 : Shape := ⟨3, ![1, 128, 128]⟩
abbrev S1x192x3072 : Shape := ⟨3, ![1, 192, 3072]⟩
abbrev S192x3072 : Shape := ⟨2, ![192, 3072]⟩
abbrev S128x192 : Shape := ⟨2, ![128, 192]⟩
abbrev S128x96 : Shape := ⟨2, ![128, 96]⟩
abbrev S1x1x96x320 : Shape := ⟨4, ![1, 1, 96, 320]⟩
abbrev S96x320 : Shape := ⟨2, ![96, 320]⟩
abbrev S128x320 : Shape := ⟨2, ![128, 320]⟩
abbrev S128x64 : Shape := ⟨2, ![128, 64]⟩
abbrev S128x384 : Shape := ⟨2, ![128, 384]⟩
abbrev S128x128x1 : Shape := ⟨3, ![128, 128, 1]⟩
abbrev S16x128 : Shape := ⟨2, ![16, 128]⟩

abbrev nBuf : Space → Nat
  | .hbm => 13
  | .vmem => 11
  | .smem => 0
  | _ => 0

abbrev bufTy : (tb : Table) → Fin (tcTables nBuf tb) → BufTy
  | .hbm, ⟨0, _⟩ => ⟨S1x128x3072, .bf16⟩
  | .hbm, ⟨1, _⟩ => ⟨S3072x16x192, .bf16⟩
  | .hbm, ⟨2, _⟩ => ⟨S16x2x320x96, .bf16⟩
  | .hbm, ⟨3, _⟩ => ⟨S1x128x16x12, .i32⟩
  | .hbm, ⟨4, _⟩ => ⟨S1x128x16x12, .i32⟩
  | .hbm, ⟨5, _⟩ => ⟨S128x16x12, .i32⟩
  | .hbm, ⟨6, _⟩ => ⟨S12x16x128, .i32⟩
  | .hbm, ⟨7, _⟩ => ⟨S128x16x12, .i32⟩
  | .hbm, ⟨8, _⟩ => ⟨S12x16x128, .i32⟩
  | .hbm, ⟨9, _⟩ => ⟨S128x3072, .bf16⟩
  | .hbm, ⟨10, _⟩ => ⟨S16x192x3072, .bf16⟩
  | .hbm, ⟨11, _⟩ => ⟨S16x2x96x320, .bf16⟩
  | .hbm, ⟨12, _⟩ => ⟨S192x128, .f32⟩
  | .local _ .vmem, ⟨0, _⟩ => ⟨S128x3072, .bf16⟩
  | .local _ .vmem, ⟨1, _⟩ => ⟨S4x192x3072, .bf16⟩
  | .local _ .vmem, ⟨2, _⟩ => ⟨S4x192x3072, .bf16⟩
  | .local _ .vmem, ⟨3, _⟩ => ⟨S4x2x96x320, .bf16⟩
  | .local _ .vmem, ⟨4, _⟩ => ⟨S4x2x96x320, .bf16⟩
  | .local _ .vmem, ⟨5, _⟩ => ⟨S12x16x128, .i32⟩
  | .local _ .vmem, ⟨6, _⟩ => ⟨S12x16x128, .i32⟩
  | .local _ .vmem, ⟨7, _⟩ => ⟨S192x128, .f32⟩
  | .local _ .vmem, ⟨8, _⟩ => ⟨S2x2x128x128, .i32⟩
  | .local _ .vmem, ⟨9, _⟩ => ⟨S2x128x128, .f32⟩
  | .local _ .vmem, ⟨10, _⟩ => ⟨S256x128, .f32⟩
  | _, _ => ⟨S1x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![4], ![false]⟩

def k0_off1 (i : grid0.Coords) : Fin 4 → Nat :=
  let c0 : Index := 0#32
  let arg0 : BitVec 32 := BitVec.ofNat 32 (i 0).val
  let c0_i32_1 : BitVec 32 := 0#32
  let v5 : BitVec 1 := Scalar.cmpi .sgt arg0 c0_i32_1
  let v6 : BitVec 32 := Scalar.extui v5
  let c0_i32_2 : BitVec 32 := 0#32
  let v7 : BitVec 1 := Scalar.cmpi .slt arg0 c0_i32_2
  let v8 : BitVec 32 := Scalar.extui v7
  let v9 : BitVec 32 := Scalar.subi v6 v8
  let c2_i32 : BitVec 32 := 2#32
  let c0_i32_3 : BitVec 32 := 0#32
  let v10 : BitVec 1 := Scalar.cmpi .sgt c2_i32 c0_i32_3
  let v11 : BitVec 32 := Scalar.extui v10
  let c0_i32_4 : BitVec 32 := 0#32
  let v12 : BitVec 1 := Scalar.cmpi .slt c2_i32 c0_i32_4
  let v13 : BitVec 32 := Scalar.extui v12
  let v14 : BitVec 32 := Scalar.subi v11 v13
  let v15 : BitVec 1 := Scalar.cmpi .ne v9 v14
  let v16 : BitVec 32 := Scalar.remsi arg0 c2_i32
  let c0_i32_5 : BitVec 32 := 0#32
  let v17 : BitVec 1 := Scalar.cmpi .ne v16 c0_i32_5
  let v18 : BitVec 1 := Scalar.andi v15 v17
  let v4 : BitVec 32 := Scalar.divsi arg0 c2_i32
  let c1_i32 : BitVec 32 := 1#32
  let v19 : BitVec 32 := Scalar.subi v4 c1_i32
  let v20 : BitVec 32 := Scalar.select v18 v19 v4
  let v21 : Index := Scalar.indexCast v20
  let c0_6 : Index := 0#32
  let c0_7 : Index := 0#32
  ![0, v21.toNat, 0, 0]
def k0_off2 (i : grid0.Coords) : Fin 4 → Nat :=
  let c1 : Index := 1#32
  let arg0 : BitVec 32 := BitVec.ofNat 32 (i 0).val
  let c0_i32_1 : BitVec 32 := 0#32
  let v5 : BitVec 1 := Scalar.cmpi .sgt arg0 c0_i32_1
  let v6 : BitVec 32 := Scalar.extui v5
  let c0_i32_2 : BitVec 32 := 0#32
  let v7 : BitVec 1 := Scalar.cmpi .slt arg0 c0_i32_2
  let v8 : BitVec 32 := Scalar.extui v7
  let v9 : BitVec 32 := Scalar.subi v6 v8
  let c2_i32 : BitVec 32 := 2#32
  let c0_i32_3 : BitVec 32 := 0#32
  let v10 : BitVec 1 := Scalar.cmpi .sgt c2_i32 c0_i32_3
  let v11 : BitVec 32 := Scalar.extui v10
  let c0_i32_4 : BitVec 32 := 0#32
  let v12 : BitVec 1 := Scalar.cmpi .slt c2_i32 c0_i32_4
  let v13 : BitVec 32 := Scalar.extui v12
  let v14 : BitVec 32 := Scalar.subi v11 v13
  let v15 : BitVec 1 := Scalar.cmpi .ne v9 v14
  let v16 : BitVec 32 := Scalar.remsi arg0 c2_i32
  let c0_i32_5 : BitVec 32 := 0#32
  let v17 : BitVec 1 := Scalar.cmpi .ne v16 c0_i32_5
  let v18 : BitVec 1 := Scalar.andi v15 v17
  let v4 : BitVec 32 := Scalar.divsi arg0 c2_i32
  let c1_i32 : BitVec 32 := 1#32
  let v19 : BitVec 32 := Scalar.subi v4 c1_i32
  let v20 : BitVec 32 := Scalar.select v18 v19 v4
  let v26 : Index := Scalar.indexCast v20
  let c0_8 : Index := 0#32
  let c0_9 : Index := 0#32
  ![1, v26.toNat, 0, 0]
def k0_off3 (i : grid0.Coords) : Fin 3 → Nat :=
  let arg0 : BitVec 32 := BitVec.ofNat 32 (i 0).val
  let c0_i32_1 : BitVec 32 := 0#32
  let v5 : BitVec 1 := Scalar.cmpi .sgt arg0 c0_i32_1
  let v6 : BitVec 32 := Scalar.extui v5
  let c0_i32_2 : BitVec 32 := 0#32
  let v7 : BitVec 1 := Scalar.cmpi .slt arg0 c0_i32_2
  let v8 : BitVec 32 := Scalar.extui v7
  let v9 : BitVec 32 := Scalar.subi v6 v8
  let c2_i32 : BitVec 32 := 2#32
  let c0_i32_3 : BitVec 32 := 0#32
  let v10 : BitVec 1 := Scalar.cmpi .sgt c2_i32 c0_i32_3
  let v11 : BitVec 32 := Scalar.extui v10
  let c0_i32_4 : BitVec 32 := 0#32
  let v12 : BitVec 1 := Scalar.cmpi .slt c2_i32 c0_i32_4
  let v13 : BitVec 32 := Scalar.extui v12
  let v14 : BitVec 32 := Scalar.subi v11 v13
  let v15 : BitVec 1 := Scalar.cmpi .ne v9 v14
  let v16 : BitVec 32 := Scalar.remsi arg0 c2_i32
  let c0_i32_5 : BitVec 32 := 0#32
  let v17 : BitVec 1 := Scalar.cmpi .ne v16 c0_i32_5
  let v18 : BitVec 1 := Scalar.andi v15 v17
  let v4 : BitVec 32 := Scalar.divsi arg0 c2_i32
  let c1_i32 : BitVec 32 := 1#32
  let v19 : BitVec 32 := Scalar.subi v4 c1_i32
  let v20 : BitVec 32 := Scalar.select v18 v19 v4
  let v41 : Index := Scalar.indexCast v20
  let c0_18 : Index := 0#32
  let c0_19 : Index := 0#32
  ![v41.toNat, 0, 0]
def k0_cond2 (i : grid0.Coords) : BitVec 1 :=
  let arg0 : BitVec 32 := BitVec.ofNat 32 (i 0).val
  let c3_i32_188 : BitVec 32 := 3#32
  let v460 : BitVec 1 := Scalar.cmpi .eq arg0 c3_i32_188
  let v461 : BitVec 32 := Scalar.extui v460
  let c0_i32_189 : BitVec 32 := 0#32
  let v462 : BitVec 1 := Scalar.cmpi .ne v461 c0_i32_189
  v462

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x192x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2x96x320 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S12x16x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x16x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x128x3072 : Shape := ⟨3, ![1, 128, 3072]⟩
abbrev S3072x16x192 : Shape := ⟨3, ![3072, 16, 192]⟩
abbrev S16x2x320x96 : Shape := ⟨4, ![16, 2, 320, 96]⟩
abbrev S1x128x16x12 : Shape := ⟨4, ![1, 128, 16, 12]⟩
abbrev S128x3072 : Shape := ⟨2, ![128, 3072]⟩
abbrev S128x16x12 : Shape := ⟨3, ![128, 16, 12]⟩
abbrev S128x16x192 : Shape := ⟨3, ![128, 16, 192]⟩
abbrev S128x16x96 : Shape := ⟨3, ![128, 16, 96]⟩
abbrev S16x1x320x96 : Shape := ⟨4, ![16, 1, 320, 96]⟩
abbrev S16x320x96 : Shape := ⟨3, ![16, 320, 96]⟩
abbrev S16x320x128 : Shape := ⟨3, ![16, 320, 128]⟩
abbrev S128x16x320 : Shape := ⟨3, ![128, 16, 320]⟩
abbrev S_ : Shape := ⟨0, ![]⟩
abbrev S128x16x12x1 : Shape := ⟨4, ![128, 16, 12, 1]⟩
abbrev S1 : Shape := ⟨1, ![1]⟩
abbrev S1x1x1x1 : Shape := ⟨4, ![1, 1, 1, 1]⟩
abbrev S128x16 : Shape := ⟨2, ![128, 16]⟩
abbrev S128x16x1 : Shape := ⟨3, ![128, 16, 1]⟩
abbrev S12x16x128 : Shape := ⟨3, ![12, 16, 128]⟩
abbrev S192x128 : Shape := ⟨2, ![192, 128]⟩

abbrev nBuf : Space → Nat
  | .hbm => 81
  | .vmem => 0
  | .smem => 0
  | _ => 0

abbrev bufTy : (tb : Table) → Fin (tcTables nBuf tb) → BufTy
  | .hbm, ⟨0, _⟩ => ⟨S1x128x3072, .bf16⟩
  | .hbm, ⟨1, _⟩ => ⟨S3072x16x192, .bf16⟩
  | .hbm, ⟨2, _⟩ => ⟨S16x2x320x96, .bf16⟩
  | .hbm, ⟨3, _⟩ => ⟨S1x128x16x12, .i32⟩
  | .hbm, ⟨4, _⟩ => ⟨S1x128x16x12, .i32⟩
  | .hbm, ⟨5, _⟩ => ⟨S128x3072, .bf16⟩
  | .hbm, ⟨6, _⟩ => ⟨S128x16x12, .i32⟩
  | .hbm, ⟨7, _⟩ => ⟨S128x16x12, .i32⟩
  | .hbm, ⟨8, _⟩ => ⟨S128x16x192, .f32⟩
  | .hbm, ⟨9, _⟩ => ⟨S128x16x192, .bf16⟩
  | .hbm, ⟨10, _⟩ => ⟨S128x16x96, .bf16⟩
  | .hbm, ⟨11, _⟩ => ⟨S128x16x96, .bf16⟩
  | .hbm, ⟨12, _⟩ => ⟨S16x1x320x96, .bf16⟩
  | .hbm, ⟨13, _⟩ => ⟨S16x320x96, .bf16⟩
  | .hbm, ⟨14, _⟩ => ⟨S16x320x128, .f32⟩
  | .hbm, ⟨15, _⟩ => ⟨S128x16x320, .f32⟩
  | .hbm, ⟨16, _⟩ => ⟨S16x1x320x96, .bf16⟩
  | .hbm, ⟨17, _⟩ => ⟨S16x320x96, .bf16⟩
  | .hbm, ⟨18, _⟩ => ⟨S16x320x128, .f32⟩
  | .hbm, ⟨19, _⟩ => ⟨S128x16x320, .f32⟩
  | .hbm, ⟨20, _⟩ => ⟨S_, .i32⟩
  | .hbm, ⟨21, _⟩ => ⟨S128x16x12, .i32⟩
  | .hbm, ⟨22, _⟩ => ⟨S128x16x12, .i1⟩
  | .hbm, ⟨23, _⟩ => ⟨S_, .i32⟩
  | .hbm, ⟨24, _⟩ => ⟨S128x16x12, .i32⟩
  | .hbm, ⟨25, _⟩ => ⟨S128x16x12, .i32⟩
  | .hbm, ⟨26, _⟩ => ⟨S128x16x12, .i32⟩
  | .hbm, ⟨27, _⟩ => ⟨S128x16x12x1, .i32⟩
  | .hbm, ⟨28, _⟩ => ⟨S1, .i32⟩
  | .hbm, ⟨29, _⟩ => ⟨S_, .i32⟩
  | .hbm, ⟨30, _⟩ => ⟨S128x16x12x1, .i32⟩
  | .hbm, ⟨31, _⟩ => ⟨S128x16x12x1, .i1⟩
  | .hbm, ⟨32, _⟩ => ⟨S1x1x1x1, .i32⟩
  | .hbm, ⟨33, _⟩ => ⟨S128x16x12x1, .i32⟩
  | .hbm, ⟨34, _⟩ => ⟨S128x16x12x1, .i1⟩
  | .hbm, ⟨35, _⟩ => ⟨S128x16x12x1, .i1⟩
  | .hbm, ⟨36, _⟩ => ⟨S_, .i1⟩
  | .hbm, ⟨37, _⟩ => ⟨S128x16x12, .i1⟩
  | .hbm, ⟨38, _⟩ => ⟨S128x16x12, .f32⟩
  | .hbm, ⟨39, _⟩ => ⟨S_, .f32⟩
  | .hbm, ⟨40, _⟩ => ⟨S128x16x12, .f32⟩
  | .hbm, ⟨41, _⟩ => ⟨S128x16x12, .f32⟩
  | .hbm, ⟨42, _⟩ => ⟨S_, .i32⟩
  | .hbm, ⟨43, _⟩ => ⟨S128x16x12, .i32⟩
  | .hbm, ⟨44, _⟩ => ⟨S128x16x12, .i1⟩
  | .hbm, ⟨45, _⟩ => ⟨S_, .i32⟩
  | .hbm, ⟨46, _⟩ => ⟨S128x16x12, .i32⟩
  | .hbm, ⟨47, _⟩ => ⟨S128x16x12, .i32⟩
  | .hbm, ⟨48, _⟩ => ⟨S128x16x12, .i32⟩
  | .hbm, ⟨49, _⟩ => ⟨S128x16x12x1, .i32⟩
  | .hbm, ⟨50, _⟩ => ⟨S1, .i32⟩
  | .hbm, ⟨51, _⟩ => ⟨S_, .i32⟩
  | .hbm, ⟨52, _⟩ => ⟨S128x16x12x1, .i32⟩
  | .hbm, ⟨53, _⟩ => ⟨S128x16x12x1, .i1⟩
  | .hbm, ⟨54, _⟩ => ⟨S1x1x1x1, .i32⟩
  | .hbm, ⟨55, _⟩ => ⟨S128x16x12x1, .i32⟩
  | .hbm, ⟨56, _⟩ => ⟨S128x16x12x1, .i1⟩
  | .hbm, ⟨57, _⟩ => ⟨S128x16x12x1, .i1⟩
  | .hbm, ⟨58, _⟩ => ⟨S_, .i1⟩
  | .hbm, ⟨59, _⟩ => ⟨S128x16x12, .i1⟩
  | .hbm, ⟨60, _⟩ => ⟨S128x16x12, .f32⟩
  | .hbm, ⟨61, _⟩ => ⟨S_, .f32⟩
  | .hbm, ⟨62, _⟩ => ⟨S128x16x12, .f32⟩
  | .hbm, ⟨63, _⟩ => ⟨S128x16x12, .f32⟩
  | .hbm, ⟨64, _⟩ => ⟨S128x16x12, .f32⟩
  | .hbm, ⟨65, _⟩ => ⟨S_, .f32⟩
  | .hbm, ⟨66, _⟩ => ⟨S128x16, .f32⟩
  | .hbm, ⟨67, _⟩ => ⟨S_, .f32⟩
  | .hbm, ⟨68, _⟩ => ⟨S128x16, .f32⟩
  | .hbm, ⟨69, _⟩ => ⟨S128x16, .f32⟩
  | .hbm, ⟨70, _⟩ => ⟨S128x16x1, .f32⟩
  | .hbm, ⟨71, _⟩ => ⟨S128x16x12, .f32⟩
  | .hbm, ⟨72, _⟩ => ⟨S128x16x12, .f32⟩
  | .hbm, ⟨73, _⟩ => ⟨S128x16x12, .f32⟩
  | .hbm, ⟨74, _⟩ => ⟨S_, .f32⟩
  | .hbm, ⟨75, _⟩ => ⟨S128x16, .f32⟩
  | .hbm, ⟨76, _⟩ => ⟨S128x16x1, .f32⟩
  | .hbm, ⟨77, _⟩ => ⟨S128x16x12, .f32⟩
  | .hbm, ⟨78, _⟩ => ⟨S128x16x12, .f32⟩
  | .hbm, ⟨79, _⟩ => ⟨S12x16x128, .f32⟩
  | .hbm, ⟨80, _⟩ => ⟨S192x128, .f32⟩
  | _, _ => ⟨S1x128x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v15 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_cst : Ref sig .tc := ⟨.hbm, 61, rfl⟩
abbrev main_call1_v14 : Ref sig .tc := ⟨.hbm, 62, rfl⟩
abbrev main_v16 : Ref sig .tc := ⟨.hbm, 63, rfl⟩
abbrev main_v17 : Ref sig .tc := ⟨.hbm, 64, rfl⟩
abbrev main_cst : Ref sig .tc := ⟨.hbm, 65, rfl⟩
abbrev main_v18 : Ref sig .tc := ⟨.hbm, 66, rfl⟩
abbrev main_cst_0 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_cst_1 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩

abbrev nD : Nat := 1
abbrev τ : Topo := Topo.v7x

variable {F : FTy → Type} [FloatOps F]
-- ==== Proof.Bits.Offsets.lean ====
/- Closed forms of the three grid-dependent offsets of the score kernel's body.  Each is printed as the
   word-level floor division of the step by two (the printed sign tests never fire on a step of the grid);
   at each of the four steps it is the plain quotient. -/
module

public import proofs.«01_k».proof.Proof.Gen.Kernel.Skeleton

@[expose] public section

set_option maxRecDepth 16384

noncomputable section

namespace Cert.Kernel.Run

open Cert.Kernel Cert.Kernel.Gen Idealize.ShloMosaic

/-- The block of first-half indices a step reads: the one of its half of the heads. -/
theorem k0_off1_eq : ∀ i : grid0.Coords, k0_off1 i = ![0, ((i 0).val / 2), 0, 0] := by decide +kernel
instance closedOff_k0_off1 (i : grid0.Coords) : ClosedOff (k0_off1 i) := ⟨![0, ((i 0).val / 2), 0, 0], k0_off1_eq i⟩
/-- The block of second-half indices a step reads. -/
theorem k0_off2_eq : ∀ i : grid0.Coords, k0_off2 i = ![1, ((i 0).val / 2), 0, 0] := by decide +kernel
instance closedOff_k0_off2 (i : grid0.Coords) : ClosedOff (k0_off2 i) := ⟨![1, ((i 0).val / 2), 0, 0], k0_off2_eq i⟩
/-- The block of the score accumulator a step updates. -/
theorem k0_off3_eq : ∀ i : grid0.Coords, k0_off3 i = ![((i 0).val / 2), 0, 0] := by decide +kernel
instance closedOff_k0_off3 (i : grid0.Coords) : ClosedOff (k0_off3 i) := ⟨![((i 0).val / 2), 0, 0], k0_off3_eq i⟩

end Cert.Kernel.Run

end
-- ==== Proof.Bits.Runs.lean ====
/- What the runs of the score kernel's body share: the branch conditions at each grid point, where the
   output window is idle, and the staging buffers and scratch memories by name. -/
module

public import proofs.«01_k».proof.Proof.Gen.Kernel.Frame
public import proofs.«01_k».proof.Proof.Bits.Offsets
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle recurses once per coordinate of its long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_1, k0_cond2, e0]
    word_cmp
   : ∀ t : Fin grid0.N, cond0_1 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .vmem S192x128 .f32 := (Memref.whole cc0_stg5_0 : Memref sig .tc .vmem S192x128 .f32).view
/-- Each window's current staging memref at point `t`, spelled as the pipeline passes it (`bodyAt0`), and its wholeness. -/
abbrev ms0_0 (t : Fin cfg0.N) : Memref sig .tc .vmem S128x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x192x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x2x96x320 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x16x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S12x16x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S192x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2x2x128x128 .i32 := Memref.whole cc0_scratch0
abbrev scM0_1 : Memref sig .tc .vmem S2x128x128 .f32 := Memref.whole cc0_scratch1
abbrev scM0_2 : Memref sig .tc .vmem S256x128 .f32 := Memref.whole cc0_scratch2
/-- The scratch `arg7` the kernel carries between points, as a view: what it holds is stated through it. -/
abbrev VS0_0 : View sig .tc .vmem S2x2x128x128 .i32 := scM0_0.view
/-- The scratch `arg8` the kernel carries between points, as a view: what it holds is stated through it. -/
abbrev VS0_1 : View sig .tc .vmem S2x128x128 .f32 := scM0_1.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Run

end
-- ==== Proof.Bits.RunA.lean ====
/- The run of the score kernel's body at the first grid point (the indices are transposed into scratch): the pieces it leaves in each buffer. -/
module

public import proofs.«01_k».proof.Proof.Bits.Runs

@[expose] public section

-- membership in a rectangle recurses once per coordinate of its long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- What the body's stores leave in each output's staging memref, as pieces (last first) IN CASE A (`scf.if` 0 taken, `scf.if` 1 not taken: points 0), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) :
    Σ' (L5 : List (View.Piece (Elt F) S192x128 .f32)), Σ' (LS0 : List (View.Piece (Elt F) S2x2x128x128 .i32)), Σ' (LS1 : List (View.Piece (Elt F) S2x128x128 .f32)), { LT2 : List (View.Piece (Elt F) S256x128 .f32) //
      ∀ (xi5 : Vec F S192x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LT2)) -∗ K ⟨⟩))
          ⊢ wp frame (wpE (defs₀ (F := F)) Variants.none c none) E (cc0_peer_scores i arg1 harg1 arg2 harg2 arg3 harg3 arg4 harg4 arg5 harg5 arg6 harg6 arg7 harg7 arg8 harg8 arg9 harg9) K } := by
  refine ⟨[], ?_, ?_, ?_, fun xi5 E K => ?run⟩
  case run =>
    simp only [cc0_peer_scores_eq_skeleton]; unfold cc0_peer_scores_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]; · iexists _; iexact HS1
    iexists _; iexact HS2

end Cert.Kernel.Run

end
-- ==== Proof.Bits.RunB.lean ====
/- The run of the score kernel's body at the middle grid points: the pieces it leaves in each buffer. -/
module

public import proofs.«01_k».proof.Proof.Bits.RunA

@[expose] public section

-- membership in a rectangle recurses once per coordinate of its long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- What the body's stores leave in each output's staging memref, as pieces (last first) IN CASE B (`scf.if` 0 not taken, `scf.if` 1 not taken: points 1, 2), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) :
    Σ' (L5 : List (View.Piece (Elt F) S192x128 .f32)), Σ' (LS0 : List (View.Piece (Elt F) S2x2x128x128 .i32)), Σ' (LS1 : List (View.Piece (Elt F) S2x128x128 .f32)), { LT2 : List (View.Piece (Elt F) S256x128 .f32) //
      ∀ (xi5 : Vec F S192x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ (arg8.view.loc (c : Thread nD τ) ↦[arg8.view.set]{fullShare} arg8.view.writes (Elt F) (harg8.unread xs1) LS1) ∗ (∃ d, owns (c : Thread nD τ) arg9 fullShare d)) -∗ K ⟨⟩))
          ⊢ wp frame (wpE (defs₀ (F := F)) Variants.none c none) E (cc0_peer_scores i arg1 harg1 arg2 harg2 arg3 harg3 arg4 harg4 arg5 harg5 arg6 harg6 arg7 harg7 arg8 harg8 arg9 harg9) K } := by
  refine ⟨[], [], ?_, [], fun xi5 E K => ?run⟩
  case run =>
    simp only [cc0_peer_scores_eq_skeleton]; unfold cc0_peer_scores_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    isplitl [HS1]; · iexact HS1
    iexists _, _; isplitr; swap; · iexact HS2
    ipureintro; rfl

end Cert.Kernel.Run

end
-- ==== Proof.Bits.RunC.lean ====
/- The run of the score kernel's body at the last grid point (the softmax is taken and stored): the pieces it leaves in each buffer. -/
module

public import proofs.«01_k».proof.Proof.Bits.RunB

@[expose] public section

-- membership in a rectangle recurses once per coordinate of its long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- What the body's stores leave in each output's staging memref, as pieces (last first) IN CASE C (`scf.if` 0 not taken, `scf.if` 1 taken: points 3), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) :
    Σ' (L5 : List (View.Piece (Elt F) S192x128 .f32)), Σ' (LS0 : List (View.Piece (Elt F) S2x2x128x128 .i32)), Σ' (LS1 : List (View.Piece (Elt F) S2x128x128 .f32)), { LT2 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0 ∗ (arg8.view.loc (c : Thread nD τ) ↦[arg8.view.set]{fullShare} arg8.view.writes (Elt F) (harg8.unread xs1) LS1) ∗ (∃ f, arg9.view.loc (c : Thread nD τ) ↦[arg9.view.set]{fullShare} arg9.view.writes (Elt F) f LT2)) -∗ K ⟨⟩))
          ⊢ wp frame (wpE (defs₀ (F := F)) Variants.none c none) E (cc0_peer_scores i arg1 harg1 arg2 harg2 arg3 harg3 arg4 harg4 arg5 harg5 arg6 harg6 arg7 harg7 arg8 harg8 arg9 harg9) K } := by
  refine ⟨?_, [], ?_, ?_, fun E K => ?run⟩
  case run =>
    simp only [cc0_peer_scores_eq_skeleton]; unfold cc0_peer_scores_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    isplitl [HS1]; · iexact HS1
    iexists _; iexact HS2

end Cert.Kernel.Run

end
-- ==== Proof.Bits.Frame.lean ====
/- The frame run of the score kernel: what each grid point leaves in the output window and in the carried
   scratch, the body obligation, and the whole run with the arguments unchanged. -/
module

public import proofs.«01_k».proof.Proof.Bits.RunC
public import Idealize.ShloMosaic.Lib.Claim

@[expose] public section

-- membership in a rectangle recurses once per coordinate of its long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) : Vec F S192x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 x0 x1 x2 x3 x4).1)

/-- Case A's pieces for scratch `arg7`, which the kernel carries between points, cover it: 4 pieces of `S1x1x128x128` tiling it (Lib/Ring.lean `Piece.tiledL`). -/
theorem scover0_A_0 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) (y : S2x2x128x128.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).2.1 S1x1x128x128.size (by sl_kernel_rfl) y

/-- What case A leaves in scratch `arg7`: its pieces read back over junk. -/
def sout0_A_0 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) : Vec F S2x2x128x128 .i32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4).2.1)

/-- Case A's pieces for scratch `arg8`, which the kernel carries between points, cover it: one of them a store of the WHOLE buffer (Lib/Ring.lean `sl_whole_mem`). -/
theorem scover0_A_1 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) (y : S2x128x128.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.2.1, y ∈ pc.1.set :=
  View.cover_of_wholeMem (kernelRun0_A c i arg1 harg1 arg2 harg2 arg3 harg3 arg4 harg4 arg5 harg5 arg6 harg6 arg7 harg7 arg8 harg8 arg9 harg9 hc0 hc1 x0 x1 x2 x3 x4).2.2.1 (by sl_whole_mem) y

/-- What case A leaves in scratch `arg8`: its pieces read back over junk. -/
def sout0_A_1 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) : Vec F S2x128x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2 x3 x4).2.2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) : Vec F S192x128 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 x0 x1 x2 x3 x4 xs0 xs1).1)

/-- Case B stores nothing into scratch `arg7`: it holds what the point before left. -/
def sout0_B_0 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) : Vec F S2x2x128x128 .i32 := xs0

/-- What case B leaves in scratch `arg8`: its pieces read back over what the point before left there, which it read first. -/
def sout0_B_1 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) : Vec F S2x128x128 .f32 :=
  arg8.view.read (Elt F) (arg8.view.writes (Elt F) (harg8.unread xs1) (kernelRun0_B c i arg1 harg1 arg2 harg2 arg3 harg3 arg4 harg4 arg5 harg5 arg6 harg6 arg7 harg7 arg8 harg8 arg9 harg9 hc0 hc1 x0 x1 x2 x3 x4 xs0 xs1).2.2.1)

/-- Case C's pieces for output 5 tile its block (12 stores of `S16x128`: Lib/Ring.lean `Piece.tiledL`), so they cover it. -/
theorem cover0_C_5 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) (y : S192x128.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).1 S16x128.size (by sl_kernel_rfl) y

/-- What case C leaves in output 5's staging buffer: its pieces read back over junk. -/
def out0_C_5 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) : Vec F S192x128 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 x2 x3 x4 xs0 xs1).1)

/-- Case C stores nothing into scratch `arg7`: it holds what the point before left. -/
def sout0_C_0 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) : Vec F S2x2x128x128 .i32 := xs0

/-- What case C leaves in scratch `arg8`: its pieces read back over what the point before left there, which it read first. -/
def sout0_C_1 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) : Vec F S2x128x128 .f32 :=
  arg8.view.read (Elt F) (arg8.view.writes (Elt F) (harg8.unread xs1) (kernelRun0_C c i arg1 harg1 arg2 harg2 arg3 harg3 arg4 harg4 arg5 harg5 arg6 harg6 arg7 harg7 arg8 harg8 arg9 harg9 hc0 hc1 x0 x1 x2 x3 x4 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S192x128 .f32 × Vec F S2x2x128x128 .i32 × Vec F S2x128x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      if h1 : (n + 1) % 4 = 3 then
        False.elim (by have hN : n + 1 < 4 := lt_of_lt_of_eq hn (show cfg0.N = 4 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 4 = 0) (h1 : ¬t.val % 4 = 3) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%fT2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _)
            iexists _; unfold owns; iexists _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; have hN : t.val < 4 := lt_of_lt_of_eq t.isLt (show cfg0.N = 4 from N_0); omega
  · by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      by_cases hz : t.val = 0
      · exfalso; have hN : t.val < 4 := lt_of_lt_of_eq t.isLt (show cfg0.N = 4 from N_0); omega
      · rw [PhiS_castSucc m c t, PhiS_pos m c _ _ hz]
        rw [outsAt0_C m c t h0 h1]
        unfold out0_C_5 sout0_C_0 sout0_C_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, HS0, HS1, ⟨%fT2, HS2⟩⟩
        isplitl [HS0 HS1 HS2 Hg]
        · isplitl [HS0 HS1 HS2]
          · isplitl [HS0]
            · iexact HS0
            isplitl [HS1]
            · unfold owns; iexists _; isplitr
              swap; · iexact HS1
              ipureintro; rfl
            iexists _; unfold owns; iexists _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 4 := lt_of_lt_of_eq t.isLt (show cfg0.N = 4 from N_0); omega
      · rw [PhiS_castSucc m c t, PhiS_pos m c _ _ hz]
        rw [outsAt0_B m c t h0 h1]
        unfold sout0_B_0 sout0_B_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]
            · iexact HS0
            isplitl [HS1]
            · unfold owns; iexists _; isplitr
              swap; · iexact HS1
              ipureintro; rfl
            iexact HS2
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 4 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Run

end
-- ==== Proof.Ideal.Offsets.lean ====
/- Closed forms of the three grid-dependent offsets of the score kernel's body.  Each is printed as the
   word-level floor division of the step by two (the printed sign tests never fire on a step of the grid);
   at each of the four steps it is the plain quotient. -/
module

public import proofs.«01_k».proof.Proof.Gen.KernelIdeal.Skeleton

@[expose] public section

set_option maxRecDepth 16384

noncomputable section

namespace Cert.KernelIdeal.Run

open Cert.KernelIdeal Cert.KernelIdeal.Gen Idealize.ShloMosaic

/-- The block of first-half indices a step reads: the one of its half of the heads. -/
theorem k0_off1_eq : ∀ i : grid0.Coords, k0_off1 i = ![0, ((i 0).val / 2), 0, 0] := by decide +kernel
instance closedOff_k0_off1 (i : grid0.Coords) : ClosedOff (k0_off1 i) := ⟨![0, ((i 0).val / 2), 0, 0], k0_off1_eq i⟩
/-- The block of second-half indices a step reads. -/
theorem k0_off2_eq : ∀ i : grid0.Coords, k0_off2 i = ![1, ((i 0).val / 2), 0, 0] := by decide +kernel
instance closedOff_k0_off2 (i : grid0.Coords) : ClosedOff (k0_off2 i) := ⟨![1, ((i 0).val / 2), 0, 0], k0_off2_eq i⟩
/-- The block of the score accumulator a step updates. -/
theorem k0_off3_eq : ∀ i : grid0.Coords, k0_off3 i = ![((i 0).val / 2), 0, 0] := by decide +kernel
instance closedOff_k0_off3 (i : grid0.Coords) : ClosedOff (k0_off3 i) := ⟨![((i 0).val / 2), 0, 0], k0_off3_eq i⟩

end Cert.KernelIdeal.Run

end
-- ==== Proof.Ideal.Runs.lean ====
/- What the runs of the score kernel's body share: the branch conditions at each grid point, where the
   output window is idle, and the staging buffers and scratch memories by name. -/
module

public import proofs.«01_k».proof.Proof.Gen.KernelIdeal.Frame
public import proofs.«01_k».proof.Proof.Ideal.Offsets
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle recurses once per coordinate of its long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_1, k0_cond2, e0]
    word_cmp
   : ∀ t : Fin grid0.N, cond0_1 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .vmem S192x128 .f32 := (Memref.whole cc0_stg5_0 : Memref sig .tc .vmem S192x128 .f32).view
/-- Each window's current staging memref at point `t`, spelled as the pipeline passes it (`bodyAt0`), and its wholeness. -/
abbrev ms0_0 (t : Fin cfg0.N) : Memref sig .tc .vmem S128x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x192x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x2x96x320 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x16x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S12x16x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S192x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2x2x128x128 .i32 := Memref.whole cc0_scratch0
abbrev scM0_1 : Memref sig .tc .vmem S2x128x128 .f32 := Memref.whole cc0_scratch1
abbrev scM0_2 : Memref sig .tc .vmem S256x128 .f32 := Memref.whole cc0_scratch2
/-- The scratch `arg7` the kernel carries between points, as a view: what it holds is stated through it. -/
abbrev VS0_0 : View sig .tc .vmem S2x2x128x128 .i32 := scM0_0.view
/-- The scratch `arg8` the kernel carries between points, as a view: what it holds is stated through it. -/
abbrev VS0_1 : View sig .tc .vmem S2x128x128 .f32 := scM0_1.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Run

end
-- ==== Proof.Ideal.RunA.lean ====
/- The run of the score kernel's body at the first grid point (the indices are transposed into scratch): the pieces it leaves in each buffer. -/
module

public import proofs.«01_k».proof.Proof.Ideal.Runs

@[expose] public section

-- membership in a rectangle recurses once per coordinate of its long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- What the body's stores leave in each output's staging memref, as pieces (last first) IN CASE A (`scf.if` 0 taken, `scf.if` 1 not taken: points 0), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) :
    Σ' (L5 : List (View.Piece (Elt F) S192x128 .f32)), Σ' (LS0 : List (View.Piece (Elt F) S2x2x128x128 .i32)), Σ' (LS1 : List (View.Piece (Elt F) S2x128x128 .f32)), { LT2 : List (View.Piece (Elt F) S256x128 .f32) //
      ∀ (xi5 : Vec F S192x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LT2)) -∗ K ⟨⟩))
          ⊢ wp frame (wpE (defs₀ (F := F)) Variants.none c none) E (cc0_peer_scores i arg1 harg1 arg2 harg2 arg3 harg3 arg4 harg4 arg5 harg5 arg6 harg6 arg7 harg7 arg8 harg8 arg9 harg9) K } := by
  refine ⟨[], ?_, ?_, ?_, fun xi5 E K => ?run⟩
  case run =>
    simp only [cc0_peer_scores_eq_skeleton]; unfold cc0_peer_scores_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]; · iexists _; iexact HS1
    iexists _; iexact HS2

end Cert.KernelIdeal.Run

end
-- ==== Proof.Ideal.RunB.lean ====
/- The run of the score kernel's body at the middle grid points: the pieces it leaves in each buffer. -/
module

public import proofs.«01_k».proof.Proof.Ideal.RunA

@[expose] public section

-- membership in a rectangle recurses once per coordinate of its long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- What the body's stores leave in each output's staging memref, as pieces (last first) IN CASE B (`scf.if` 0 not taken, `scf.if` 1 not taken: points 1, 2), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) :
    Σ' (L5 : List (View.Piece (Elt F) S192x128 .f32)), Σ' (LS0 : List (View.Piece (Elt F) S2x2x128x128 .i32)), Σ' (LS1 : List (View.Piece (Elt F) S2x128x128 .f32)), { LT2 : List (View.Piece (Elt F) S256x128 .f32) //
      ∀ (xi5 : Vec F S192x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ (arg8.view.loc (c : Thread nD τ) ↦[arg8.view.set]{fullShare} arg8.view.writes (Elt F) (harg8.unread xs1) LS1) ∗ (∃ d, owns (c : Thread nD τ) arg9 fullShare d)) -∗ K ⟨⟩))
          ⊢ wp frame (wpE (defs₀ (F := F)) Variants.none c none) E (cc0_peer_scores i arg1 harg1 arg2 harg2 arg3 harg3 arg4 harg4 arg5 harg5 arg6 harg6 arg7 harg7 arg8 harg8 arg9 harg9) K } := by
  refine ⟨[], [], ?_, [], fun xi5 E K => ?run⟩
  case run =>
    simp only [cc0_peer_scores_eq_skeleton]; unfold cc0_peer_scores_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    isplitl [HS1]; · iexact HS1
    iexists _, _; isplitr; swap; · iexact HS2
    ipureintro; rfl

end Cert.KernelIdeal.Run

end
-- ==== Proof.Ideal.RunC.lean ====
/- The run of the score kernel's body at the last grid point (the softmax is taken and stored): the pieces it leaves in each buffer. -/
module

public import proofs.«01_k».proof.Proof.Ideal.RunB

@[expose] public section

-- membership in a rectangle recurses once per coordinate of its long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- What the body's stores leave in each output's staging memref, as pieces (last first) IN CASE C (`scf.if` 0 not taken, `scf.if` 1 taken: points 3), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) :
    Σ' (L5 : List (View.Piece (Elt F) S192x128 .f32)), Σ' (LS0 : List (View.Piece (Elt F) S2x2x128x128 .i32)), Σ' (LS1 : List (View.Piece (Elt F) S2x128x128 .f32)), { LT2 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0 ∗ (arg8.view.loc (c : Thread nD τ) ↦[arg8.view.set]{fullShare} arg8.view.writes (Elt F) (harg8.unread xs1) LS1) ∗ (∃ f, arg9.view.loc (c : Thread nD τ) ↦[arg9.view.set]{fullShare} arg9.view.writes (Elt F) f LT2)) -∗ K ⟨⟩))
          ⊢ wp frame (wpE (defs₀ (F := F)) Variants.none c none) E (cc0_peer_scores i arg1 harg1 arg2 harg2 arg3 harg3 arg4 harg4 arg5 harg5 arg6 harg6 arg7 harg7 arg8 harg8 arg9 harg9) K } := by
  refine ⟨?_, [], ?_, ?_, fun E K => ?run⟩
  case run =>
    simp only [cc0_peer_scores_eq_skeleton]; unfold cc0_peer_scores_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    isplitl [HS1]; · iexact HS1
    iexists _; iexact HS2

end Cert.KernelIdeal.Run

end
-- ==== Proof.Ideal.Frame.lean ====
/- The frame run of the score kernel: what each grid point leaves in the output window and in the carried
   scratch, the body obligation, and the whole run with the arguments unchanged. -/
module

public import proofs.«01_k».proof.Proof.Ideal.RunC
public import Idealize.ShloMosaic.Lib.Claim

@[expose] public section

-- membership in a rectangle recurses once per coordinate of its long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) : Vec F S192x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 x0 x1 x2 x3 x4).1)

/-- Case A's pieces for scratch `arg7`, which the kernel carries between points, cover it: 4 pieces of `S1x1x128x128` tiling it (Lib/Ring.lean `Piece.tiledL`). -/
theorem scover0_A_0 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) (y : S2x2x128x128.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).2.1 S1x1x128x128.size (by sl_kernel_rfl) y

/-- What case A leaves in scratch `arg7`: its pieces read back over junk. -/
def sout0_A_0 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) : Vec F S2x2x128x128 .i32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4).2.1)

/-- Case A's pieces for scratch `arg8`, which the kernel carries between points, cover it: one of them a store of the WHOLE buffer (Lib/Ring.lean `sl_whole_mem`). -/
theorem scover0_A_1 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) (y : S2x128x128.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.2.1, y ∈ pc.1.set :=
  View.cover_of_wholeMem (kernelRun0_A c i arg1 harg1 arg2 harg2 arg3 harg3 arg4 harg4 arg5 harg5 arg6 harg6 arg7 harg7 arg8 harg8 arg9 harg9 hc0 hc1 x0 x1 x2 x3 x4).2.2.1 (by sl_whole_mem) y

/-- What case A leaves in scratch `arg8`: its pieces read back over junk. -/
def sout0_A_1 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) : Vec F S2x128x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2 x3 x4).2.2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) : Vec F S192x128 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 x0 x1 x2 x3 x4 xs0 xs1).1)

/-- Case B stores nothing into scratch `arg7`: it holds what the point before left. -/
def sout0_B_0 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) : Vec F S2x2x128x128 .i32 := xs0

/-- What case B leaves in scratch `arg8`: its pieces read back over what the point before left there, which it read first. -/
def sout0_B_1 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) : Vec F S2x128x128 .f32 :=
  arg8.view.read (Elt F) (arg8.view.writes (Elt F) (harg8.unread xs1) (kernelRun0_B c i arg1 harg1 arg2 harg2 arg3 harg3 arg4 harg4 arg5 harg5 arg6 harg6 arg7 harg7 arg8 harg8 arg9 harg9 hc0 hc1 x0 x1 x2 x3 x4 xs0 xs1).2.2.1)

/-- Case C's pieces for output 5 tile its block (12 stores of `S16x128`: Lib/Ring.lean `Piece.tiledL`), so they cover it. -/
theorem cover0_C_5 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) (y : S192x128.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).1 S16x128.size (by sl_kernel_rfl) y

/-- What case C leaves in output 5's staging buffer: its pieces read back over junk. -/
def out0_C_5 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) : Vec F S192x128 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 x2 x3 x4 xs0 xs1).1)

/-- Case C stores nothing into scratch `arg7`: it holds what the point before left. -/
def sout0_C_0 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) : Vec F S2x2x128x128 .i32 := xs0

/-- What case C leaves in scratch `arg8`: its pieces read back over what the point before left there, which it read first. -/
def sout0_C_1 (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) : Vec F S2x128x128 .f32 :=
  arg8.view.read (Elt F) (arg8.view.writes (Elt F) (harg8.unread xs1) (kernelRun0_C c i arg1 harg1 arg2 harg2 arg3 harg3 arg4 harg4 arg5 harg5 arg6 harg6 arg7 harg7 arg8 harg8 arg9 harg9 hc0 hc1 x0 x1 x2 x3 x4 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S192x128 .f32 × Vec F S2x2x128x128 .i32 × Vec F S2x128x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      if h1 : (n + 1) % 4 = 3 then
        False.elim (by have hN : n + 1 < 4 := lt_of_lt_of_eq hn (show cfg0.N = 4 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 4 = 0) (h1 : ¬t.val % 4 = 3) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%fT2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _)
            iexists _; unfold owns; iexists _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; have hN : t.val < 4 := lt_of_lt_of_eq t.isLt (show cfg0.N = 4 from N_0); omega
  · by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      by_cases hz : t.val = 0
      · exfalso; have hN : t.val < 4 := lt_of_lt_of_eq t.isLt (show cfg0.N = 4 from N_0); omega
      · rw [PhiS_castSucc m c t, PhiS_pos m c _ _ hz]
        rw [outsAt0_C m c t h0 h1]
        unfold out0_C_5 sout0_C_0 sout0_C_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, HS0, HS1, ⟨%fT2, HS2⟩⟩
        isplitl [HS0 HS1 HS2 Hg]
        · isplitl [HS0 HS1 HS2]
          · isplitl [HS0]
            · iexact HS0
            isplitl [HS1]
            · unfold owns; iexists _; isplitr
              swap; · iexact HS1
              ipureintro; rfl
            iexists _; unfold owns; iexists _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 4 := lt_of_lt_of_eq t.isLt (show cfg0.N = 4 from N_0); omega
      · rw [PhiS_castSucc m c t, PhiS_pos m c _ _ hz]
        rw [outsAt0_B m c t h0 h1]
        unfold sout0_B_0 sout0_B_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]
            · iexact HS0
            isplitl [HS1]
            · unfold owns; iexists _; isplitr
              swap; · iexact HS1
              ipureintro; rfl
            iexact HS2
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 4 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Run

end
-- ==== Proof.Ideal.Value.lean ====
/- The output array after the run, as a fold over the grid points of what each leaves in the window and the
   carried scratch. -/
module

public import proofs.«01_k».proof.Proof.Ideal.Frame
public import Idealize.ShloMosaic.Lib.Pipeline.Value

@[expose] public section

noncomputable section

namespace Cert.KernelIdeal.Value

open Cert.KernelIdeal Cert.KernelIdeal.Gen Cert.KernelIdeal.Run Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`out0_A_5`: the pieces
    its run found, read back) at the point's memrefs and input blocks, and for an output the case reads back what the point before left (`outsAt0` at `t - 1`) — by the frame's rewriting lemma for the case. -/
theorem flushed5_A (c : Dev nD) (t : Fin cfg0.N) (h0 : t.val % 4 = 0) (h1 : ¬t.val % 4 = 3) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) := by
  simp only [flushed5, outsAt0_A m c t h0 h1]

/-- … so at a point where case B runs, what its write-back would write is that case's NAMED TERM for the window (`out0_B_5`: the pieces
    its run found, read back) at the point's memrefs and input blocks, and for an output the case reads back what the point before left (`outsAt0` at `t - 1`) — by the frame's rewriting lemma for the case. -/
theorem flushed5_B (c : Dev nD) (t : Fin cfg0.N) (h0 : ¬t.val % 4 = 0) (h1 : ¬t.val % 4 = 3) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed5, outsAt0_B m c t h0 h1]

/-- … so at a point where case C runs, what its write-back would write is that case's NAMED TERM for the window (`out0_C_5`: the pieces
    its run found, read back) at the point's memrefs and input blocks, and for an output the case reads back what the point before left (`outsAt0` at `t - 1`) — by the frame's rewriting lemma for the case. -/
theorem flushed5_C (c : Dev nD) (t : Fin cfg0.N) (h0 : ¬t.val % 4 = 0) (h1 : t.val % 4 = 3) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed5, outsAt0_C m c t h0 h1]

/-- An index that no flushing point's block covers keeps output window 5's array contents at region entry. -/
theorem entry5 (c : Dev nD) (i : S192x128.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v7) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v7) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S192x128 .f32 × Vec F S2x2x128x128 .i32 × Vec F S2x128x128 .f32 :=
  ((VO0_5.read (Elt F) VO0_5.junk, VS0_0.read (Elt F) VS0_0.junk, VS0_1.read (Elt F) VS0_1.junk) : Vec F S192x128 .f32 × Vec F S2x2x128x128 .i32 × Vec F S2x128x128 .f32)

/-- THE STEP: what point `n` leaves in the named outputs and the carried scratch (`outsAt0`'s tuple), over what the
    point before left (`acc`) — `outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S192x128 .f32 × Vec F S2x2x128x128 .i32 × Vec F S2x128x128 .f32) : Vec F S192x128 .f32 × Vec F S2x2x128x128 .i32 × Vec F S2x128x128 .f32 :=
  if h0 : n % 4 = 0 then
    if h1 : n % 4 = 3 then
      False.elim (by have hN : n < 4 := lt_of_lt_of_eq hb (show cfg0.N = 4 from N_0); omega)
    else
      (out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)))
  else
    if h1 : n % 4 = 3 then
      (out0_C_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.1 acc.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.1 acc.2.2, sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.1 acc.2.2)
    else
      (out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.1 acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.1 acc.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.1 acc.2.2)

/-- `stAt0` at a point of case A: that case's contents. -/
theorem stAt0_A (c : Dev nD) (t : Fin cfg0.N) (acc : Vec F S192x128 .f32 × Vec F S2x2x128x128 .i32 × Vec F S2x128x128 .f32) (h0 : t.val % 4 = 0) (h1 : ¬t.val % 4 = 3) :
    stAt0 m c t.val t.isLt acc = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) :=
  (dif_pos h0).trans ((dif_neg h1).trans rfl)

/-- `stAt0` at a point of case B: that case's contents, over `acc`. -/
theorem stAt0_B (c : Dev nD) (t : Fin cfg0.N) (acc : Vec F S192x128 .f32 × Vec F S2x2x128x128 .i32 × Vec F S2x128x128 .f32) (h0 : ¬t.val % 4 = 0) (h1 : ¬t.val % 4 = 3) :
    stAt0 m c t.val t.isLt acc = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) acc.2.1 acc.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) acc.2.1 acc.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) acc.2.1 acc.2.2) :=
  (dif_neg h0).trans ((dif_neg h1).trans rfl)

/-- `stAt0` at a point of case C: that case's contents, over `acc`. -/
theorem stAt0_C (c : Dev nD) (t : Fin cfg0.N) (acc : Vec F S192x128 .f32 × Vec F S2x2x128x128 .i32 × Vec F S2x128x128 .f32) (h0 : ¬t.val % 4 = 0) (h1 : t.val % 4 = 3) :
    stAt0 m c t.val t.isLt acc = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) acc.2.1 acc.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) acc.2.1 acc.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) acc.2.1 acc.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 4 from N_0)
  have e := Pipeline.eq_accAt_of_mod (fun n h => outsAt0 m c n h) 4 (fun n h => stAt0 m c n h junk0) (stAt0 m c)
    (fun n h _ => by
      have hN := lt_of_lt_of_eq h (show cfg0.N = 4 from N_0)
      obtain rfl : n = 0 := by omega
      exact outsAt0_zero m c h)
    (fun n h _ => outsAt0_succ m c n h)
    (by decide) n hn (by have := Nat.div_add_mod n 4; omega)
  have hd : n / 4 = 0 := Nat.div_eq_of_lt hN
  have hm : n % 4 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 5 -/

/-- The block of the array that holds index `i`, numbered in the order the points write the blocks back (one every 4 points),
    `i`'s place in it, and the point that writes it back (the last of its 4). -/
abbrev run5Of (i : S192x128.Idx) : ℕ := 1 * ((i 0).val / 192 - 0) + 1 * ((i 1).val / 128 - 0)
set_option backward.proofsInPublic true in
abbrev loc5Of (i : S192x128.Idx) : S192x128.Idx := fun a => match a with
  | ⟨0, _⟩ => ⟨(i 0).val % 192, Nat.mod_lt _ (by decide)⟩
  | ⟨1, _⟩ => ⟨(i 1).val % 128, Nat.mod_lt _ (by decide)⟩
abbrev pt5Of (i : S192x128.Idx) : ℕ := 4 * run5Of i + 3

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v7) := fun i =>
  if h : pt5Of i < cfg0.N then
    (Pipeline.accAt (fun n h => stAt0 m c n h junk0) (stAt0 m c) 0 (pt5Of i) (by omega)).1 (loc5Of i)
  else V m c (Pipeline.arrRef spec0 5) i

/-- The printed index map, decided over the grid: output window 5's block indices stay in the box, and the block number
    read off them is the point's (`t / 4`). -/
theorem idx_facts5 : ∀ t : Fin cfg0.N, 0 ≤ win0_5.index t (0 : Fin 2) ∧ win0_5.index t (0 : Fin 2) ≤ 0
    ∧ 0 ≤ win0_5.index t (1 : Fin 2) ∧ win0_5.index t (1 : Fin 2) ≤ 0
    ∧ 1 * (win0_5.index t (0 : Fin 2) - 0) + 1 * (win0_5.index t (1 : Fin 2) - 0) = t.val / 4 :=
  (by decide +kernel : ∀ t : Fin grid0.N, _)

/-- Every block of the box is SOME flushing point's: `onto5Pt`, the point that writes back the block at place `q` of the box (the last point of its run). -/
abbrev onto5Pt (q0 : Fin 1) (q1 : Fin 1) : Fin grid0.N :=
  ⟨4 * (1 * q0.val + 1 * q1.val) + 3, lt_of_lt_of_eq (by omega) N_0.symm⟩
theorem idx_onto5 : ∀ (q0 : Fin 1) (q1 : Fin 1), ∃ t : Fin cfg0.N, (cfg0.win 5).flush t = true ∧ win0_5.index t = ![q0.val + 0, q1.val + 0] :=
  fun q0 q1 => ⟨onto5Pt q0 q1, (by decide +kernel : ∀ (q0 : Fin 1) (q1 : Fin 1), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  have hm : t.val % 4 = 3 := (flush0_5 t).mp hf
  obtain ⟨e0, e1, e2⟩ := idx_facts5 t
  funext y
  have hy0 : (y 0).val < 192 := (y 0).isLt
  have hy1 : (y 1).val < 128 := (y 1).isLt
  have hb0 : (((cfg0.win 5).blk t).view.emb y 0).val = win0_5.index t (0 : Fin 2) * 192 + 1 * (y 0).val := rfl
  have hb1 : (((cfg0.win 5).blk t).view.emb y 1).val = win0_5.index t (1 : Fin 2) * 128 + 1 * (y 1).val := rfl
  have hr : run5Of (((cfg0.win 5).blk t).view.emb y) = t.val / 4 := by
    show 1 * ((((cfg0.win 5).blk t).view.emb y 0).val / 192 - 0) + 1 * ((((cfg0.win 5).blk t).view.emb y 1).val / 128 - 0) = _
    rw [hb0, hb1]
    rw [show (win0_5.index t (0 : Fin 2) * 192 + 1 * (y 0).val) / 192 = win0_5.index t (0 : Fin 2) from by omega]; rw [show (win0_5.index t (1 : Fin 2) * 128 + 1 * (y 1).val) / 128 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 192 = (y 0).val; rw [hb0]; omega
    | ⟨1, _⟩ => show (((cfg0.win 5).blk t).view.emb y 1).val % 128 = (y 1).val; rw [hb1]; omega
  have hp : pt5Of (((cfg0.win 5).blk t).view.emb y) = t.val := by
    show 4 * run5Of (((cfg0.win 5).blk t).view.emb y) + 3 = _
    rw [hr]; have := Nat.div_add_mod t.val 4; omega
  show (Pipeline.accAt (fun n h => stAt0 m c n h junk0) (stAt0 m c) 0 t.val _).1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S192x128.Idx) :
    i ∈ ((cfg0.win 5).blk t).view.set ↔ ∀ a : Fin 2, win0_5.index t a * S192x128.size a ≤ (i a).val ∧ (i a).val < win0_5.index t a * S192x128.size a + S192x128.size a := by
  show i ∈ ((View.whole main_v7).slice (win0_5.rect t)).set ↔ _
  rw [View.set_slice_whole, Rect.mem_set_unit]
  exact Iff.rfl

/-- THE COVERED INDICES: in some flushing point's block iff inside the box those blocks fill. -/
theorem covered_iff5 (i : S192x128.Idx) :
    (∃ t : Fin cfg0.N, (cfg0.win 5).flush t = true ∧ i ∈ ((cfg0.win 5).blk t).view.set) ↔ 0 ≤ (i 0).val ∧ (i 0).val < 192 ∧ 0 ≤ (i 1).val ∧ (i 1).val < 128 := by
  constructor
  · rintro ⟨t, -, hi⟩
    rw [mem_blk5] at hi
    have b0 : win0_5.index t (0 : Fin 2) * 192 ≤ (i 0).val ∧ (i 0).val < win0_5.index t (0 : Fin 2) * 192 + 192 := hi 0
    have b1 : win0_5.index t (1 : Fin 2) * 128 ≤ (i 1).val ∧ (i 1).val < win0_5.index t (1 : Fin 2) * 128 + 128 := hi 1
    obtain ⟨e0, e1, e2⟩ := idx_facts5 t
    omega
  · intro h
    have hi0 : (i 0).val < 192 := (i 0).isLt
    have hi1 : (i 1).val < 128 := (i 1).isLt
    obtain ⟨t, hft, ht⟩ := idx_onto5 ⟨(i 0).val / 192 - 0, by omega⟩ ⟨(i 1).val / 128 - 0, by omega⟩
    have q0 : win0_5.index t (0 : Fin 2) = (i 0).val / 192 - 0 + 0 := congrFun ht 0
    have q1 : win0_5.index t (1 : Fin 2) = (i 1).val / 128 - 0 + 0 := congrFun ht 1
    refine ⟨t, hft, ?_⟩
    rw [mem_blk5]
    intro a
    match a with
    | ⟨0, _⟩ => show win0_5.index t (0 : Fin 2) * 192 ≤ (i 0).val ∧ (i 0).val < win0_5.index t (0 : Fin 2) * 192 + 192; omega
    | ⟨1, _⟩ => show win0_5.index t (1 : Fin 2) * 128 ≤ (i 1).val ∧ (i 1).val < win0_5.index t (1 : Fin 2) * 128 + 128; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 192 := (i 0).isLt; have h1 : (i 1).val < 128 := (i 1).isLt; omega))

/-- Output 5 is written back ONCE, at the last point, and its block is its array: the array after the run is output 5's
    component of the fold over the whole grid. -/
theorem G5_last (c : Dev nD) :
    G5 m c = (Pipeline.accAt (fun n h => stAt0 m c n h junk0) (stAt0 m c) 0 3 (lt_of_lt_of_eq (by decide) N_0.symm)).1 := by
  funext i
  have hi0 : (i 0).val < 192 := (i 0).isLt
  have hi1 : (i 1).val < 128 := (i 1).isLt
  have hp : pt5Of i = 3 := by
    show 4 * (1 * ((i 0).val / 192 - 0) + 1 * ((i 1).val / 128 - 0)) + 3 = _
    omega
  have hl : loc5Of i = i := by
    funext a; apply Fin.ext
    match a with
    | ⟨0, _⟩ => show (i 0).val % 192 = (i 0).val; omega
    | ⟨1, _⟩ => show (i 1).val % 128 = (i 1).val; omega
  unfold G5
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v7) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      kept_main_arg0 m r h c,
      kept_main_arg1 m r h c,
      kept_main_arg2 m r h c,
      kept_main_arg3 m r h c,
      kept_main_arg4 m r h c⟩)
    (run_main m ρ)

end Cert.KernelIdeal.Value

end
-- ==== Proof.Ideal.Blocks.lean ====
/- The blocks a grid step reads, in terms of the arguments: the host transposes and reshapes the arguments, and a step
   takes four heads' weights and keys, and the whole of the rest. -/
module
public import proofs.«01_k».proof.Proof.Ideal.Value
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Cert.KernelIdeal Cert.KernelIdeal.Gen
namespace Cert.KernelIdeal.Run
variable {F : FTy → Type} [FloatOps F]
variable (m : (ℓ : Loc nD τ sig) → Buf (Elt F) ℓ) (c : Dev nD)

theorem idx0 : ∀ t : Fin cfg0.N, win0_0.index t (0 : Fin 2) = 0 ∧ win0_0.index t (1 : Fin 2) = 0 :=
  (by decide +kernel : ∀ t : Fin grid0.N, _)

theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

theorem idx2 : ∀ t : Fin cfg0.N, win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)

theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)

theorem block0 (t : Fin cfg0.N) (a : Fin 128) (e : Fin 3072) :
    (iblk m c 0 t : Vec F S128x3072 .bf16) (ix2 a e) = (m ((c : Thread nD τ).loc main_arg0) : Vec F S1x128x3072 .bf16) (ix3 0 a e) := by
  blk_ext! [iblk, V, idx0 t]

theorem block1 (t : Fin cfg0.N) (ht : t.val < 4) (j : Fin 4) (d : Fin 192) (e : Fin 3072) :
    (iblk m c 1 t : Vec F S4x192x3072 .bf16) (ix3 j d e)
      = (m ((c : Thread nD τ).loc main_arg1) : Vec F S3072x16x192 .bf16) (ix3 e ⟨4 * t.val + j.val, by omega⟩ d) := by
  blk_ext! [iblk, V, idx1 t]

theorem block2 (t : Fin cfg0.N) (ht : t.val < 4) (j : Fin 4) (p : Fin 2) (d : Fin 96) (n : Fin 320) :
    (iblk m c 2 t : Vec F S4x2x96x320 .bf16) (ix4 j p d n)
      = (m ((c : Thread nD τ).loc main_arg2) : Vec F S16x2x320x96 .bf16) (ix4 ⟨4 * t.val + j.val, by omega⟩ p n d) := by
  blk_ext! [iblk, V, idx2 t]

theorem block3 (t : Fin cfg0.N) (k : Fin 12) (h : Fin 16) (a : Fin 128) :
    (iblk m c 3 t : Vec F S12x16x128 .i32) (ix3 k h a) = (m ((c : Thread nD τ).loc main_arg3) : Vec F S1x128x16x12 .i32) (ix4 0 a h k) := by
  blk_ext! [iblk, V, idx3 t]

theorem block4 (t : Fin cfg0.N) (k : Fin 12) (h : Fin 16) (a : Fin 128) :
    (iblk m c 4 t : Vec F S12x16x128 .i32) (ix3 k h a) = (m ((c : Thread nD τ).loc main_arg4) : Vec F S1x128x16x12 .i32) (ix4 0 a h k) := by
  blk_ext! [iblk, V, idx4 t]

end Cert.KernelIdeal.Run
-- ==== Proof.Ideal.Head.lean ====
module
public import proofs.«01_k».proof.Proof.Gen.KernelIdeal.Skeleton
public import Idealize.ShloMosaic.Lib.Pointwise
/-!
# The four heads of one grid step are one function

The kernel handles four heads at each grid step. Its printed text computes the four with separate chains of operations.
Here each chain is shown to be the same function, `headStep`, of the head's own weight block and key blocks.
-/
@[expose] public section
set_option maxRecDepth 16384
noncomputable section
open Idealize.ShloMosaic Cert.KernelIdeal Cert.KernelIdeal.Gen
namespace Cert.KernelIdeal.Head
variable {F : FTy → Type} [FloatOps F]

/-- One head's scores, gathered at the low and high index words of the two parts and added up (from the query `x · wᵀ`). -/
def headTot (lo0 hi0 lo1 hi1 : IVec S128x128 32) (x : Vec F S128x3072 .bf16) (w : Vec F S1x192x3072 .bf16)
    (kA kB : Vec F S1x1x96x320 .bf16) : FVec F S128x128 .f32 :=
  k0_pay97 lo1 hi1 (k0_pay95 lo0 hi0 k0_pay93 (k0_pay94 x w) kA) (k0_pay96 (k0_pay92 x w)) kB

/-- One head's part of a step: the lanes of the head `h8` (modulo eight) receive its scores, the others keep `r`. -/
def headStep (v0 : IVec S128x128 32) (h8 : BitVec 32) (r : FVec F S128x128 .f32) (lo0 hi0 lo1 hi1 : IVec S128x128 32)
    (x : Vec F S128x3072 .bf16) (w : Vec F S1x192x3072 .bf16) (kA kB : Vec F S1x1x96x320 .bf16) : FVec F S128x128 .f32 :=
  k0_pay98 v0 r h8 (headTot lo0 hi0 lo1 hi1 x w kA kB) 4#32

variable (v0 lo0 hi0 lo1 hi1 : IVec S128x128 32) (h8 : BitVec 32) (r : FVec F S128x128 .f32)
  (x : Vec F S128x3072 .bf16) (w : Vec F S1x192x3072 .bf16) (kA kB : Vec F S1x1x96x320 .bf16)

/-- The first head's printed chain. -/
theorem head0_eq :
    k0_pay91 v0 lo1 hi1 r h8
      (k0_pay86 lo0 hi0 k0_pay81 (k0_pay82 x w kA) k0_pay83 (k0_pay84 lo0 x w kA) k0_pay85)
      (k0_pay87 (k0_pay80 x w) kB) k0_pay88 (k0_pay89 lo1 (k0_pay80 x w) kB) k0_pay90
    = headStep v0 h8 r lo0 hi0 lo1 hi1 x w kA kB := rfl

/-- The third head's printed chain. -/
theorem head2_eq :
    k0_pay112 v0 lo1 hi1 r h8
      (k0_pay106 lo0 hi0 k0_pay100 (k0_pay101 x w kA) (k0_pay102 lo0 hi0 x w kA) (k0_pay103 x w kA) (k0_pay104 lo0) k0_pay105)
      (k0_pay107 (k0_pay99 x w) kB) (k0_pay108 lo1 hi1 (k0_pay99 x w) kB) (k0_pay109 (k0_pay99 x w) kB)
      (k0_pay110 lo1) k0_pay111
    = headStep v0 h8 r lo0 hi0 lo1 hi1 x w kA kB := rfl

/-- The fourth head's printed chain. -/
theorem head3_eq :
    k0_pay118 v0 lo1 hi1 r h8
      (k0_pay116 lo0 hi0 k0_pay114 (k0_pay115 x w kA)) (k0_pay117 (k0_pay113 x w) kB)
    = headStep v0 h8 r lo0 hi0 lo1 hi1 x w kA kB := rfl

end Cert.KernelIdeal.Head
-- ==== Proof.Ideal.Steps.lean ====
/- The score scratch after a grid step: the lanes of the step's four heads receive their scores, in the half of
   the scratch the step works on. The three cases of a step give the same function of what stood there before. -/
module
public import proofs.«01_k».proof.Proof.Ideal.Value
public import proofs.«01_k».proof.Proof.Ideal.Head
public import Idealize.ShloMosaic.Lib.Pipeline.ValueKit
public import Idealize.ShloMosaic.Lib.Pipeline.ReadBack
public import Idealize.ShloMosaic.Lib.WritesUnit
@[expose] public section
set_option maxRecDepth 16384
noncomputable section
open Idealize.ShloMosaic Cert.KernelIdeal Cert.KernelIdeal.Gen Cert.KernelIdeal.Head
namespace Cert.KernelIdeal.Run
variable {F : FTy → Type} [FloatOps F]

/-- The head number (modulo eight) of the `j`-th head of step `i`, as the kernel's words compute it. -/
def headWord (i : grid0.Coords) (j : BitVec 32) : BitVec 32 :=
  Scalar.andi (Scalar.addi (Scalar.muli (BitVec.ofNat 32 (i 0).val) 4#32) j) 7#32

/-- The `j`-th head of step `i`, on top of the scores `r`: index words from the index scratch `idx`, weights and keys from
    the step's blocks. -/
def stepHead (i : grid0.Coords) (j : BitVec 32) (x0 : Vec F S128x3072 .bf16) (idx : Vec F S2x2x128x128 .i32)
    (w : Vec F S1x192x3072 .bf16) (kA kB : Vec F S1x1x96x320 .bf16) (r : FVec F S128x128 .f32) : FVec F S128x128 .f32 :=
  headStep (iota Kind.tc S128x128 32 [1] iota_S128x128_d1_w32) (headWord i j) r
    (k0_pay75 (View.ld idx (Rect.unit (s := S2x2x128x128) (k0_off1 i) S1x1x128x128.size (k0_off1_inb i))))
    (k0_pay77 (View.ld idx (Rect.unit (s := S2x2x128x128) (k0_off1 i) S1x1x128x128.size (k0_off1_inb i))))
    (k0_pay76 (View.ld idx (Rect.unit (s := S2x2x128x128) (k0_off2 i) S1x1x128x128.size (k0_off2_inb i))))
    (k0_pay78 (View.ld idx (Rect.unit (s := S2x2x128x128) (k0_off2 i) S1x1x128x128.size (k0_off2_inb i))))
    x0 w kA kB

/-- The four heads of step `i`, one after the other, on top of the scores `r`. -/
def stepRow (i : grid0.Coords) (x0 : Vec F S128x3072 .bf16) (x1 : Vec F S4x192x3072 .bf16) (x2 : Vec F S4x2x96x320 .bf16)
    (idx : Vec F S2x2x128x128 .i32) (r : FVec F S128x128 .f32) : FVec F S128x128 .f32 :=
  stepHead i 3#32 x0 idx (View.ld x1 (Rect.unit ![3, 0, 0] ![1, 192, 3072] inb_S4x192x3072_S1x192x3072_3_0_0))
      (View.ld x2 (Rect.unit ![3, 0, 0, 0] ![1, 1, 96, 320] inb_S4x2x96x320_S1x1x96x320_3_0_0_0))
      (View.ld x2 (Rect.unit ![3, 1, 0, 0] ![1, 1, 96, 320] inb_S4x2x96x320_S1x1x96x320_3_1_0_0)) <|
    stepHead i 2#32 x0 idx (View.ld x1 (Rect.unit ![2, 0, 0] ![1, 192, 3072] inb_S4x192x3072_S1x192x3072_2_0_0))
      (View.ld x2 (Rect.unit ![2, 0, 0, 0] ![1, 1, 96, 320] inb_S4x2x96x320_S1x1x96x320_2_0_0_0))
      (View.ld x2 (Rect.unit ![2, 1, 0, 0] ![1, 1, 96, 320] inb_S4x2x96x320_S1x1x96x320_2_1_0_0)) <|
    stepHead i 1#32 x0 idx (View.ld x1 (Rect.unit ![1, 0, 0] ![1, 192, 3072] inb_S4x192x3072_S1x192x3072_1_0_0))
      (View.ld x2 (Rect.unit ![1, 0, 0, 0] ![1, 1, 96, 320] inb_S4x2x96x320_S1x1x96x320_1_0_0_0))
      (View.ld x2 (Rect.unit ![1, 1, 0, 0] ![1, 1, 96, 320] inb_S4x2x96x320_S1x1x96x320_1_1_0_0)) <|
    stepHead i 0#32 x0 idx (View.ld x1 (Rect.unit ![0, 0, 0] ![1, 192, 3072] inb_S4x192x3072_S1x192x3072_0_0_0))
      (View.ld x2 (Rect.unit ![0, 0, 0, 0] ![1, 1, 96, 320] inb_S4x2x96x320_S1x1x96x320_0_0_0_0))
      (View.ld x2 (Rect.unit ![0, 1, 0, 0] ![1, 1, 96, 320] inb_S4x2x96x320_S1x1x96x320_0_1_0_0)) r

/-- The half of the score scratch that step `i` works on, read out of it. -/
def halfOf (i : grid0.Coords) (old : Vec F S2x128x128 .f32) : FVec F S128x128 .f32 :=
  k0_pay79 (View.ld old (Rect.unit (s := S2x128x128) (k0_off3 i) S1x128x128.size (k0_off3_inb i)))

/-- The score scratch after step `i`, from the score scratch `old` before it and the index scratch. -/
def stepped (i : grid0.Coords) (x0 : Vec F S128x3072 .bf16) (x1 : Vec F S4x192x3072 .bf16) (x2 : Vec F S4x2x96x320 .bf16)
    (idx : Vec F S2x2x128x128 .i32) (old : Vec F S2x128x128 .f32) : Vec F S2x128x128 .f32 := fun y =>
  if (y 0).val = (i 0).val / 2 then
    k0_pay1 (stepRow i x0 x1 x2 idx (halfOf i old)) (fun a => ⟨if a = 0 then 0 else (y a).val, by
      have := (y a).isLt; fin_cases a <;> simp_all⟩)
  else old y

/-- A write of one half over prior contents, read back. -/
theorem write_half {sp : Space} (v : View sig .tc sp S2x128x128 .f32) (f : v.ty.Contents (Elt F)) (i : grid0.Coords)
    (w : FVec F S1x128x128 .f32) (L : List (View.Piece (Elt F) S2x128x128 .f32)) (y : S2x128x128.Idx) :
    v.read (Elt F) (v.writes (Elt F) f ((⟨Rect.unit (s := S2x128x128) (k0_off3 i) S1x128x128.size (k0_off3_inb i), w⟩ : View.Piece (Elt F) S2x128x128 .f32) :: L)) y
      = if (y 0).val = (i 0).val / 2 then w (fun a => ⟨if a = 0 then 0 else (y a).val, by
      have := (y a).isLt; fin_cases a <;> simp_all⟩) else v.read (Elt F) (v.writes (Elt F) f L) y := by
  split
  next h =>
    refine View.read_writes_cons_unit_of_mem v f _ w L y _ (k0_off3_eq i) fun a => ?_
    fin_cases a <;> simp [h]
  next h =>
    refine View.read_writes_cons_unit_of_not_mem v f _ w L y (k0_off3_eq i) 0 ?_
    show (y 0).val < (i 0).val / 2 ∨ (i 0).val / 2 + 1 ≤ (y 0).val
    omega

/-- Case B's step. -/
theorem sout0_B_1_eq (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) (y : S2x128x128.Idx) :
    sout0_B_1 c i arg1 harg1 arg2 harg2 arg3 harg3 arg4 harg4 arg5 harg5 arg6 harg6 arg7 harg7 arg8 harg8 arg9 harg9 hc0 hc1 x0 x1 x2 x3 x4 xs0 xs1 y = stepped i x0 x1 x2 xs0 xs1 y := by
  unfold sout0_B_1
  frame_open
  frame_out
  rw [head0_eq, head2_eq, head3_eq]
  refine (write_half arg8.view _ i _ [] y).trans ?_
  unfold stepped
  split
  · rfl
  · exact congrFun (harg8.read_unread xs1) y

/-- Case C's step. -/
theorem sout0_C_1_eq (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : cond0_1 i)
    (x0 : Vec F S128x3072 .bf16) (x1 : Vec F S4x192x3072 .bf16) (x2 : Vec F S4x2x96x320 .bf16) (x3 : Vec F S12x16x128 .i32) (x4 : Vec F S12x16x128 .i32) (xs0 : Vec F S2x2x128x128 .i32) (xs1 : Vec F S2x128x128 .f32) (y : S2x128x128.Idx) :
    sout0_C_1 c i arg1 harg1 arg2 harg2 arg3 harg3 arg4 harg4 arg5 harg5 arg6 harg6 arg7 harg7 arg8 harg8 arg9 harg9 hc0 hc1 x0 x1 x2 x3 x4 xs0 xs1 y = stepped i x0 x1 x2 xs0 xs1 y := by
  unfold sout0_C_1
  frame_open
  frame_out
  rw [head0_eq, head2_eq, head3_eq]
  refine (write_half arg8.view _ i _ [] y).trans ?_
  unfold stepped
  split
  · rfl
  · exact congrFun (harg8.read_unread xs1) y

/-- Case A's step. -/
theorem sout0_A_1_eq (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : cond0_0 i) (hc1 : ¬cond0_1 i)
    (x0 : Vec F S128x3072 .bf16) (x1 : Vec F S4x192x3072 .bf16) (x2 : Vec F S4x2x96x320 .bf16) (x3 : Vec F S12x16x128 .i32) (x4 : Vec F S12x16x128 .i32) (y : S2x128x128.Idx) :
    sout0_A_1 c i arg1 harg1 arg2 harg2 arg3 harg3 arg4 harg4 arg5 harg5 arg6 harg6 arg7 harg7 arg8 harg8 arg9 harg9 hc0 hc1 x0 x1 x2 x3 x4 y = stepped i x0 x1 x2 (sout0_A_0 c i arg1 harg1 arg2 harg2 arg3 harg3 arg4 harg4 arg5 harg5 arg6 harg6 arg7 harg7 arg8 harg8 arg9 harg9 hc0 hc1 x0 x1 x2 x3 x4) k0_pay11 y := by
  unfold sout0_A_1
  frame_open
  simp (disch := decide) only [↓ View.readCov_skip, ↓ View.readCov_cons_toLoadRect, ↓ View.readCov_fill]
  frame_out
  rw [head0_eq, head2_eq, head3_eq]
  generalize hX : (View.canon (Val := Elt F) (s := S2x2x128x128) (e := .i32) _) = X
  clear hX
  rw [← View.read_writes_junk_apply_eq_canon VS0_1]
  refine (write_half VS0_1 _ i _ _ y).trans ?_
  unfold stepped
  split
  · rfl
  · exact View.read_writes_cons_unit_of_mem VS0_1 _ _ _ [] y y rfl fun a => by fin_cases a <;> simp

end Cert.KernelIdeal.Run
-- ==== Proof.Ideal.Pick.lean ====
/- The scores a grid step computes, over the extended reals, where every index word names a sub-key: the two gathers of
   a head pick the two sub-keys' scores, and the lanes of the step's four heads receive their sums. -/
module
public import proofs.«01_k».proof.Proof.Ideal.Steps
public import Idealize.ShloMosaic.PureOps.Ideal
public import Idealize.ShloMosaic.PureOps.Ideal.Laws
@[expose] public section
set_option maxRecDepth 16384
noncomputable section
open Idealize.ShloMosaic Cert.KernelIdeal Cert.KernelIdeal.Gen Cert.KernelIdeal.Head
namespace Cert.KernelIdeal.Run

/-- A word below 128 is not below zero, so the gather's wrap leaves it as it is. -/
theorem unwrapped {lo : BitVec 32} (h : lo.toNat < 128) :
    Scalar.select (IntOp.cmpi CmpIPredicate.slt lo 0#32) (IntOp.addi lo 128#32) lo = lo := by
  have e : lo.toInt = lo.toNat := BitVec.toInt_eq_toNat_of_lt (by omega)
  have f : lo.slt 0#32 = false := by
    rw [BitVec.slt, e]
    simp
  show Scalar.select (BitVec.ofBool (lo.slt 0#32)) _ _ = lo
  rw [f]
  rfl

/-- The test that a word is the small number `c`. -/
theorem chose {hi : BitVec 32} {c : Nat} (hc : c < 2 ^ 32) {α : Type} (a b : α) :
    Scalar.select (IntOp.cmpi CmpIPredicate.eq hi (BitVec.ofNat 32 c)) a b = if hi.toNat = c then a else b := by
  have e : (hi == BitVec.ofNat 32 c) = decide (hi.toNat = c) := by
    rw [Bool.eq_iff_iff, beq_iff_eq, decide_eq_true_iff, ← BitVec.toNat_inj, BitVec.toNat_ofNat, Nat.mod_eq_of_lt hc]
  show Scalar.select (BitVec.ofBool (hi == BitVec.ofNat 32 c)) a b = _
  rw [e]
  by_cases h : hi.toNat = c <;> simp [h, Scalar.select]

/-- Gathering in the three blocks of 128 lanes and choosing the block by the high word reads the table at the whole word. -/
theorem pick_eq (f : Fin 320 → EReal) (lo hi : BitVec 32) (m : Fin 320) (hlo : lo.toNat = m.val % 128)
    (hhi : hi.toNat = m.val / 128) :
    Scalar.select (IntOp.cmpi CmpIPredicate.eq hi 2#32)
      (if h : 256 + (Scalar.select (IntOp.cmpi CmpIPredicate.slt lo 0#32) (IntOp.addi lo 128#32) lo).toNat % 128 < 320
        then f ⟨256 + (Scalar.select (IntOp.cmpi CmpIPredicate.slt lo 0#32) (IntOp.addi lo 128#32) lo).toNat % 128, h⟩ else 0)
      (Scalar.select (IntOp.cmpi CmpIPredicate.eq hi 1#32)
        (if h : 128 + (Scalar.select (IntOp.cmpi CmpIPredicate.slt lo 0#32) (IntOp.addi lo 128#32) lo).toNat % 128 < 320
          then f ⟨128 + (Scalar.select (IntOp.cmpi CmpIPredicate.slt lo 0#32) (IntOp.addi lo 128#32) lo).toNat % 128, h⟩ else 0)
        (Scalar.select (IntOp.cmpi CmpIPredicate.eq hi 0#32)
          (if h : (Scalar.select (IntOp.cmpi CmpIPredicate.slt lo 0#32) (IntOp.addi lo 128#32) lo).toNat % 128 < 320
            then f ⟨(Scalar.select (IntOp.cmpi CmpIPredicate.slt lo 0#32) (IntOp.addi lo 128#32) lo).toNat % 128, h⟩ else 0)
          0)) = f m := by
  have hm := m.isLt
  rw [unwrapped (lo := lo) (by omega), chose (by decide), chose (by decide), chose (by decide), hlo, hhi]
  have hcases : m.val / 128 = 0 ∨ m.val / 128 = 1 ∨ m.val / 128 = 2 := by omega
  rcases hcases with h | h | h
  · rw [if_neg (by omega), if_neg (by omega), if_pos h, dif_pos (by omega)]
    exact congrArg f (Fin.ext (by show m.val % 128 % 128 = m.val; omega))
  · rw [if_neg (by omega), if_pos h, dif_pos (by omega)]
    exact congrArg f (Fin.ext (by show 128 + m.val % 128 % 128 = m.val; omega))
  · rw [if_pos h, dif_pos (by omega)]
    exact congrArg f (Fin.ext (by show 256 + m.val % 128 % 128 = m.val; omega))

/-- One head's scores at an index: the sum of the two picked sub-keys' scores. -/
theorem headTot_apply (lo0 hi0 lo1 hi1 : IVec S128x128 32) (x : Vec Ideal S128x3072 .bf16) (w : Vec Ideal S1x192x3072 .bf16)
    (kA kB : Vec Ideal S1x1x96x320 .bf16) (n : S128x128.Idx) (m0 m1 : Fin 320)
    (hlo0 : (lo0 n).toNat = m0.val % 128) (hhi0 : (hi0 n).toNat = m0.val / 128)
    (hlo1 : (lo1 n).toNat = m1.val % 128) (hhi1 : (hi1 n).toNat = m1.val / 128) :
    headTot lo0 hi0 lo1 hi1 x w kA kB n
      = (∑ d : Fin 96, (∑ e : Fin 3072, x (ix2 (n 0) e) * w (ix3 0 ⟨d.val, by omega⟩ e)) * kA (ix4 0 0 d m0))
        + ∑ d : Fin 96, (∑ e : Fin 3072, x (ix2 (n 0) e) * w (ix3 0 ⟨96 + d.val, by omega⟩ e)) * kB (ix4 0 0 d m1) := by
  unfold headTot
  pointwise [k0_pay97, k0_pay95, k0_pay93, k0_pay94, k0_pay96, k0_pay92]
  exact congrArg₂ (· + ·)
    (pick_eq (fun m => ∑ d : Fin 96, (∑ e : Fin 3072, x (ix2 (n 0) e) * w (ix3 0 ⟨d.val, by omega⟩ e)) * kA (ix4 0 0 d m))
      (lo0 n) (hi0 n) m0 hlo0 hhi0)
    (pick_eq (fun m => ∑ d : Fin 96, (∑ e : Fin 3072, x (ix2 (n 0) e) * w (ix3 0 ⟨96 + d.val, by omega⟩ e)) * kB (ix4 0 0 d m))
      (lo1 n) (hi1 n) m1 hlo1 hhi1)

/-- The score of the `j`-th head of a step at token `t`, at the sub-keys `m0` and `m1` of its two parts. -/
def localScore (x0 : Vec Ideal S128x3072 .bf16) (x1 : Vec Ideal S4x192x3072 .bf16) (x2 : Vec Ideal S4x2x96x320 .bf16)
    (t : Fin 128) (j : Fin 4) (m0 m1 : Fin 320) : EReal :=
  (∑ d : Fin 96, (∑ e : Fin 3072, x0 (ix2 t e) * x1 (ix3 j ⟨d.val, by omega⟩ e)) * x2 (ix4 j 0 d m0))
    + ∑ d : Fin 96, (∑ e : Fin 3072, x0 (ix2 t e) * x1 (ix3 j ⟨96 + d.val, by omega⟩ e)) * x2 (ix4 j 1 d m1)

theorem low_toNat (v : Vec Ideal S1x1x128x128 .i32) (n : S128x128.Idx) :
    (k0_pay75 (F := Ideal) v n).toNat = (v (ix4 0 0 (n 0) (n 1))).toNat % 128 := by
  have e : k0_pay75 (F := Ideal) v n = IntOp.andi (v (ix4 0 0 (n 0) (n 1))) 127#32 := by pointwise [k0_pay75]
  rw [e]
  show (_ &&& 127#32).toNat = _
  rw [BitVec.toNat_and]
  exact Nat.and_two_pow_sub_one_eq_mod _ 7

theorem low_toNat' (v : Vec Ideal S1x1x128x128 .i32) (n : S128x128.Idx) :
    (k0_pay76 (F := Ideal) v n).toNat = (v (ix4 0 0 (n 0) (n 1))).toNat % 128 := low_toNat v n

theorem high_toNat (v : Vec Ideal S1x1x128x128 .i32) (n : S128x128.Idx) :
    (k0_pay77 (F := Ideal) v n).toNat = (v (ix4 0 0 (n 0) (n 1))).toNat / 128 := by
  have e : k0_pay77 (F := Ideal) v n = IntOp.shrui .vector (v (ix4 0 0 (n 0) (n 1))) 7#32 := by pointwise [k0_pay77]
  rw [e]
  show ((v (ix4 0 0 (n 0) (n 1))) >>> (7#32 : BitVec 32)).toNat = _
  rw [BitVec.ushiftRight_eq', BitVec.toNat_ushiftRight, Nat.shiftRight_eq_div_pow]
  rfl

theorem high_toNat' (v : Vec Ideal S1x1x128x128 .i32) (n : S128x128.Idx) :
    (k0_pay78 (F := Ideal) v n).toNat = (v (ix4 0 0 (n 0) (n 1))).toNat / 128 := high_toNat v n

/-- The lane test of a head: lane `l` belongs to the head `l / 16` (modulo eight). -/
theorem headStep_apply (h8 : BitVec 32) (r : FVec Ideal S128x128 .f32) (lo0 hi0 lo1 hi1 : IVec S128x128 32)
    (x : Vec Ideal S128x3072 .bf16) (w : Vec Ideal S1x192x3072 .bf16) (kA kB : Vec Ideal S1x1x96x320 .bf16) (n : S128x128.Idx) :
    headStep (iota Kind.tc S128x128 32 [1] iota_S128x128_d1_w32) h8 r lo0 hi0 lo1 hi1 x w kA kB n
      = if (n 1).val / 16 = h8.toNat then headTot lo0 hi0 lo1 hi1 x w kA kB n else r n := by
  unfold headStep
  generalize headTot lo0 hi0 lo1 hi1 x w kA kB = T
  have e : k0_pay98 (iota Kind.tc S128x128 32 [1] iota_S128x128_d1_w32) r h8 T 4#32 n
      = Scalar.select (IntOp.cmpi CmpIPredicate.eq (IntOp.shrui .vector (BitVec.ofNat 32 (n 1).val) 4#32) h8) (T n) (r n) := by
    pointwise [k0_pay98]
  have hn : (n 1).val < 128 := (n 1).isLt
  have f : (IntOp.shrui .vector (BitVec.ofNat 32 (n 1).val) 4#32).toNat = (n 1).val / 16 := by
    show ((BitVec.ofNat 32 (n 1).val) >>> (4#32 : BitVec 32)).toNat = _
    rw [BitVec.ushiftRight_eq', BitVec.toNat_ushiftRight, Nat.shiftRight_eq_div_pow, BitVec.toNat_ofNat,
      Nat.mod_eq_of_lt (by omega)]
    rfl
  refine e.trans ?_
  have g := chose (hi := IntOp.shrui .vector (BitVec.ofNat 32 (n 1).val) 4#32) (c := h8.toNat) h8.isLt (T n) (r n)
  rw [BitVec.ofNat_toNat, BitVec.setWidth_eq, f] at g
  exact g

theorem headWord_toNat : ∀ (i : grid0.Coords) (j : Fin 4), (headWord i (BitVec.ofNat 32 j.val)).toNat = (4 * (i 0).val + j.val) % 8 := by
  decide +kernel

variable (i : grid0.Coords) (x0 : Vec Ideal S128x3072 .bf16) (x1 : Vec Ideal S4x192x3072 .bf16) (x2 : Vec Ideal S4x2x96x320 .bf16)
  (idx : Vec Ideal S2x2x128x128 .i32) (r : FVec Ideal S128x128 .f32)

/-- The half of the scratches a step works on. -/
def half (i : grid0.Coords) : Fin 2 := ⟨(i 0).val / 2, by have h : (i 0).val < 4 := (i 0).isLt; omega⟩

theorem ld_first (a b : Fin 128) :
    View.ld idx (Rect.unit (s := S2x2x128x128) (k0_off1 i) S1x1x128x128.size (k0_off1_inb i)) (ix4 0 0 a b) = idx (ix4 0 (half i) a b) := by
  refine View.ld_unit_apply_of idx _ _ _ _ _ fun k => ?_
  refine Eq.trans ?_ (congrArg (· + _) (congrFun (k0_off1_eq i) k).symm)
  fin_cases k <;> simp [half]

theorem ld_second (a b : Fin 128) :
    View.ld idx (Rect.unit (s := S2x2x128x128) (k0_off2 i) S1x1x128x128.size (k0_off2_inb i)) (ix4 0 0 a b) = idx (ix4 1 (half i) a b) := by
  refine View.ld_unit_apply_of idx _ _ _ _ _ fun k => ?_
  refine Eq.trans ?_ (congrArg (· + _) (congrFun (k0_off2_eq i) k).symm)
  fin_cases k <;> simp [half]

/-- One head of a step at an index, for blocks that hold the `j`-th head's weights and keys. -/
theorem stepHead_apply (j : Fin 4) (w : Vec Ideal S1x192x3072 .bf16) (kA kB : Vec Ideal S1x1x96x320 .bf16)
    (hw : ∀ d e, w (ix3 0 d e) = x1 (ix3 j d e)) (hA : ∀ d m, kA (ix4 0 0 d m) = x2 (ix4 j 0 d m))
    (hB : ∀ d m, kB (ix4 0 0 d m) = x2 (ix4 j 1 d m)) (n : S128x128.Idx) (m0 m1 : Fin 320)
    (h0 : (idx (ix4 0 (half i) (n 0) (n 1))).toNat = m0.val) (h1 : (idx (ix4 1 (half i) (n 0) (n 1))).toNat = m1.val) :
    stepHead i (BitVec.ofNat 32 j.val) x0 idx w kA kB r n
      = if (n 1).val / 16 = (4 * (i 0).val + j.val) % 8 then localScore x0 x1 x2 (n 0) j m0 m1 else r n := by
  unfold stepHead
  rw [headStep_apply, headWord_toNat, headTot_apply _ _ _ _ _ _ _ _ n m0 m1
    ((low_toNat _ n).trans ((congrArg (fun b : BitVec 32 => b.toNat % 128) (ld_first i idx (n 0) (n 1))).trans (congrArg (· % 128) h0))) ((high_toNat _ n).trans ((congrArg (fun b : BitVec 32 => b.toNat / 128) (ld_first i idx (n 0) (n 1))).trans (congrArg (· / 128) h0)))
    ((low_toNat' _ n).trans ((congrArg (fun b : BitVec 32 => b.toNat % 128) (ld_second i idx (n 0) (n 1))).trans (congrArg (· % 128) h1))) ((high_toNat' _ n).trans ((congrArg (fun b : BitVec 32 => b.toNat / 128) (ld_second i idx (n 0) (n 1))).trans (congrArg (· / 128) h1)))]
  unfold localScore
  simp only [hw, hA, hB]

theorem ld_w (j : Fin 4) (inb) (d : Fin 192) (e : Fin 3072) :
    View.ld x1 (Rect.unit (s := S4x192x3072) ![j.val, 0, 0] ![1, 192, 3072] inb) (ix3 0 d e) = x1 (ix3 j d e) := by
  refine View.ld_unit_apply_of x1 _ _ _ _ _ fun k => ?_
  fin_cases k <;> simp

theorem ld_k (j : Fin 4) (p : Fin 2) (inb) (d : Fin 96) (m : Fin 320) :
    View.ld x2 (Rect.unit (s := S4x2x96x320) ![j.val, p.val, 0, 0] ![1, 1, 96, 320] inb) (ix4 0 0 d m) = x2 (ix4 j p d m) := by
  refine View.ld_unit_apply_of x2 _ _ _ _ _ fun k => ?_
  fin_cases k <;> simp

/-- A step's four heads at an index: the lanes of the heads `4 i, …, 4 i + 3` (modulo eight) receive their scores. -/
theorem stepRow_apply (n : S128x128.Idx) (m0 m1 : Fin 320)
    (h0 : (idx (ix4 0 (half i) (n 0) (n 1))).toNat = m0.val) (h1 : (idx (ix4 1 (half i) (n 0) (n 1))).toNat = m1.val) :
    stepRow i x0 x1 x2 idx r n
      = if (n 1).val / 64 = (i 0).val % 2 then localScore x0 x1 x2 (n 0) ⟨(n 1).val / 16 % 4, by omega⟩ m0 m1 else r n := by
  have hn : (n 1).val < 128 := (n 1).isLt
  have hi : (i 0).val < 4 := (i 0).isLt
  unfold stepRow
  refine (stepHead_apply i x0 x1 x2 idx _ 3 _ _ _ (ld_w x1 3 _) (ld_k x2 3 0 _) (ld_k x2 3 1 _) n m0 m1 h0 h1).trans ?_
  by_cases h3' : (n 1).val / 16 = (4 * (i 0).val + 3) % 8
  · refine (if_pos h3').trans (Eq.trans ?_ (if_pos (by omega)).symm)
    exact congrArg (fun j => localScore x0 x1 x2 (n 0) j m0 m1) (Fin.ext (by show 3 = (n 1).val / 16 % 4; omega))
  refine (if_neg h3').trans ?_
  refine (stepHead_apply i x0 x1 x2 idx _ 2 _ _ _ (ld_w x1 2 _) (ld_k x2 2 0 _) (ld_k x2 2 1 _) n m0 m1 h0 h1).trans ?_
  by_cases h2' : (n 1).val / 16 = (4 * (i 0).val + 2) % 8
  · refine (if_pos h2').trans (Eq.trans ?_ (if_pos (by omega)).symm)
    exact congrArg (fun j => localScore x0 x1 x2 (n 0) j m0 m1) (Fin.ext (by show 2 = (n 1).val / 16 % 4; omega))
  refine (if_neg h2').trans ?_
  refine (stepHead_apply i x0 x1 x2 idx _ 1 _ _ _ (ld_w x1 1 _) (ld_k x2 1 0 _) (ld_k x2 1 1 _) n m0 m1 h0 h1).trans ?_
  by_cases h1' : (n 1).val / 16 = (4 * (i 0).val + 1) % 8
  · refine (if_pos h1').trans (Eq.trans ?_ (if_pos (by omega)).symm)
    exact congrArg (fun j => localScore x0 x1 x2 (n 0) j m0 m1) (Fin.ext (by show 1 = (n 1).val / 16 % 4; omega))
  refine (if_neg h1').trans ?_
  refine (stepHead_apply i x0 x1 x2 idx _ 0 _ _ _ (ld_w x1 0 _) (ld_k x2 0 0 _) (ld_k x2 0 1 _) n m0 m1 h0 h1).trans ?_
  by_cases h0' : (n 1).val / 16 = (4 * (i 0).val + 0) % 8
  · refine (if_pos h0').trans (Eq.trans ?_ (if_pos (by omega)).symm)
    exact congrArg (fun j => localScore x0 x1 x2 (n 0) j m0 m1) (Fin.ext (by show 0 = (n 1).val / 16 % 4; omega))
  refine (if_neg h0').trans ?_
  exact (if_neg (by omega)).symm

/-- The score scratch after a step, at an index whose words name the sub-keys `m0` and `m1`. -/
theorem stepped_apply (old : Vec Ideal S2x128x128 .f32) (g : Fin 2) (t l : Fin 128) (m0 m1 : Fin 320)
    (h0 : (idx (ix4 0 g t l)).toNat = m0.val) (h1 : (idx (ix4 1 g t l)).toNat = m1.val) :
    stepped i x0 x1 x2 idx old (ix3 g t l)
      = if (8 * g.val + l.val / 16) / 4 = (i 0).val then localScore x0 x1 x2 t ⟨l.val / 16 % 4, by omega⟩ m0 m1
        else old (ix3 g t l) := by
  have hl : l.val < 128 := l.isLt
  have hi : (i 0).val < 4 := (i 0).isLt
  unfold stepped
  show (if g.val = (i 0).val / 2 then _ else _) = _
  by_cases hg : g.val = (i 0).val / 2
  · rw [if_pos hg]
    obtain rfl : g = half i := Fin.ext hg
    have e : k0_pay1 (stepRow i x0 x1 x2 idx (halfOf i old)) (fun a => ⟨if a = 0 then 0 else ((ix3 (half i) t l : S2x128x128.Idx) a).val, by
        have := ((ix3 (half i) t l : S2x128x128.Idx) a).isLt; fin_cases a <;> simp_all⟩)
        = stepRow i x0 x1 x2 idx (halfOf i old) (ix2 t l) := by
      generalize stepRow i x0 x1 x2 idx (halfOf i old) = R
      pointwise [k0_pay1]
    have f : halfOf i old (ix2 t l) = old (ix3 (half i) t l) := by
      have f' : halfOf i old (ix2 t l) = View.ld old (Rect.unit (s := S2x128x128) (k0_off3 i) S1x128x128.size (k0_off3_inb i)) (ix3 0 t l) := by
        unfold halfOf
        generalize View.ld old (Rect.unit (s := S2x128x128) (k0_off3 i) S1x128x128.size (k0_off3_inb i)) = R
        pointwise [k0_pay79]
      rw [f']
      refine View.ld_unit_apply_of old _ _ _ _ _ fun k => ?_
      refine Eq.trans ?_ (congrArg (· + _) (congrFun (k0_off3_eq i) k).symm)
      fin_cases k <;> simp [half]
    refine e.trans ?_
    rw [stepRow_apply i x0 x1 x2 idx _ (ix2 t l) m0 m1 h0 h1, f]
    show (if l.val / 64 = (i 0).val % 2 then _ else _) = _
    refine if_congr ?_ rfl rfl
    show _ ↔ (8 * ((i 0).val / 2) + l.val / 16) / 4 = _
    omega
  · rw [if_neg hg, if_neg (by omega)]

end Cert.KernelIdeal.Run
-- ==== Proof.Ideal.Indices.lean ====
/- The index scratch the first step fills: part, half, token, lane. Lane `16 q + k` of half `g` holds the word of pick `k`
   of head `8 g + q`; the four lanes past the twelve picks hold zero. The kernel lays the words out as floats, transposes
   them and converts them back, which over the extended reals loses nothing. -/
module
public import proofs.«01_k».proof.Proof.Ideal.Pick
@[expose] public section
set_option maxRecDepth 16384
noncomputable section
open Idealize.ShloMosaic Cert.KernelIdeal Cert.KernelIdeal.Gen Cert.KernelIdeal.Head
namespace Cert.KernelIdeal.Run
variable {F : FTy → Type} [FloatOps F]

/-- The rows of the first `h` heads, stored over `L`, as the kernel stores them: twelve picks in rows `16 h, …, 16 h + 11`. -/
def rowsTo (X : Vec F S12x16x128 .i32) (L : List (View.Piece (Elt F) S256x128 .f32)) : Nat → List (View.Piece (Elt F) S256x128 .f32)
  | 0 => L
  | h + 1 => ⟨Rect.unit (s := S256x128) ![16 * (h % 16), 0] ![12, 128] (by
        intro a; fin_cases a
        · show 16 * (h % 16) + 12 ≤ 256; omega
        · show 0 + 128 ≤ 128; omega),
      k0_pay13 (View.ld X (Rect.unit (s := S12x16x128) ![0, h % 16, 0] ![12, 1, 128] (by
        intro a; fin_cases a
        · show 0 + 12 ≤ 12; omega
        · show h % 16 + 1 ≤ 16; omega
        · show 0 + 128 ≤ 128; omega)))⟩ :: rowsTo X L h

/-- The stored rows read back. -/
theorem rowsTo_read (v : View sig .tc .vmem S256x128 .f32) (f : v.ty.Contents (Elt Ideal)) (X : Vec Ideal S12x16x128 .i32)
    (L : List (View.Piece (Elt Ideal) S256x128 .f32)) (a : Fin 256) (t : Fin 128) : ∀ h, h ≤ 16 →
    v.read (Elt Ideal) (v.writes (Elt Ideal) f (rowsTo X L h)) (ix2 a t)
      = if hk : a.val / 16 < h ∧ a.val % 16 < 12 then
          FloatOps.sitofp (F := Ideal) .f32 (X (ix3 ⟨a.val % 16, hk.2⟩ ⟨a.val / 16, by omega⟩ t))
        else v.read (Elt Ideal) (v.writes (Elt Ideal) f L) (ix2 a t)
  | 0, _ => by rw [dif_neg (by omega)]; rfl
  | h + 1, hh => by
    have ih := rowsTo_read v f X L a t h (by omega)
    by_cases hm : a.val / 16 = h ∧ a.val % 16 < 12
    · rw [dif_pos ⟨by omega, hm.2⟩]
      refine (View.read_writes_cons_unit_of_mem v f _ _ _ (ix2 a t) (ix2 ⟨a.val % 16, hm.2⟩ t) rfl ?_).trans ?_
      · intro k; fin_cases k
        · show a.val = 16 * (h % 16) + a.val % 16; omega
        · show t.val = 0 + t.val; omega
      · have e : ∀ Y : Vec Ideal S12x1x128 .i32, k0_pay13 (F := Ideal) Y (ix2 ⟨a.val % 16, hm.2⟩ t)
            = FloatOps.sitofp (F := Ideal) .f32 (Y (ix3 ⟨a.val % 16, hm.2⟩ 0 t)) := by
          intro Y
          pointwise [k0_pay13]
        refine (e _).trans (congrArg _ ?_)
        refine View.ld_unit_apply_of X _ _ _ _ _ fun k => ?_
        fin_cases k
        · show a.val % 16 = 0 + a.val % 16; omega
        · show a.val / 16 = h % 16 + 0; omega
        · show t.val = 0 + t.val; omega
    · refine (View.read_writes_cons_unit_of_not_mem v f _ _ _ (ix2 a t) rfl 0 ?_).trans ?_
      · show a.val < 16 * (h % 16) ∨ 16 * (h % 16) + 12 ≤ a.val
        omega
      · refine ih.trans ?_
        by_cases hc : a.val / 16 < h ∧ a.val % 16 < 12
        · rw [dif_pos hc, dif_pos ⟨by omega, hc.2⟩]
        · rw [dif_neg hc, dif_neg (by omega)]

/-- A 32-bit word survives the conversion to an extended real and back. -/
theorem fptosi_sitofp (b : BitVec 32) : Ideal.fptosi 32 (FloatOps.sitofp (F := Ideal) .f32 b) = b := by
  show BitVec.ofInt 32 (max _ (min _ (if 0 ≤ ((b.toInt : ℝ)) then ⌊(b.toInt : ℝ)⌋ else ⌈(b.toInt : ℝ)⌉))) = b
  have h1 := b.toInt_lt
  have h2 := b.le_toInt
  rw [Int.floor_intCast, Int.ceil_intCast, ite_self, min_eq_right, max_eq_right, BitVec.ofInt_toInt]
  · omega
  · omega

theorem fptosi_zero : Ideal.fptosi 32 (0 : EReal) = 0#32 := by
  have h := fptosi_sitofp 0#32
  have e : (FloatOps.sitofp (F := Ideal) .f32 0#32 : EReal) = 0 := by
    show (((0#32 : BitVec 32).toInt : ℝ) : EReal) = 0
    simp
  rwa [e] at h

/-- The word the index scratch holds for half `g`, token `t`, lane `l`, from one part's indices. -/
def word (X : Vec Ideal S12x16x128 .i32) (g : Fin 2) (t l : Fin 128) : BitVec 32 :=
  if h : l.val % 16 < 12 then X (ix3 ⟨l.val % 16, h⟩ ⟨8 * g.val + l.val / 16, by omega⟩ t) else 0#32

theorem block_apply (Y : Vec Ideal S128x128 .f32) (t l : Fin 128) :
    k0_pay32 (F := Ideal) Y (ix4 0 0 t l) = Ideal.fptosi 32 (Y (ix2 l t)) := by
  pointwise [k0_pay32]
  rfl

/-- A block of the index scratch: half `g`'s rows, read out of the stored rows, transposed and converted back. -/
theorem block_word (v : View sig .tc .vmem S256x128 .f32) (f : v.ty.Contents (Elt Ideal)) (X : Vec Ideal S12x16x128 .i32)
    (L : List (View.Piece (Elt Ideal) S256x128 .f32))
    (hL : ∀ (a : Fin 256) (t : Fin 128), 12 ≤ a.val % 16 → v.read (Elt Ideal) (v.writes (Elt Ideal) f L) (ix2 a t) = (0 : EReal))
    (g : Fin 2) (t l : Fin 128) (Y : Vec Ideal S128x128 .f32)
    (hY : Y (ix2 l t) = v.read (Elt Ideal) (v.writes (Elt Ideal) f (rowsTo X L 16)) (ix2 ⟨128 * g.val + l.val, by omega⟩ t)) :
    k0_pay32 (F := Ideal) Y (ix4 0 0 t l) = word X g t l := by
  rw [block_apply, hY, rowsTo_read v f X L _ t 16 (le_refl _)]
  unfold word
  by_cases h : l.val % 16 < 12
  · rw [dif_pos ⟨by show (128 * g.val + l.val) / 16 < 16; omega, by show (128 * g.val + l.val) % 16 < 12; omega⟩, dif_pos h,
      fptosi_sitofp]
    refine congrArg X ?_
    congr 1
    · exact Fin.ext (by show (128 * g.val + l.val) % 16 = l.val % 16; omega)
    · exact Fin.ext (by show (128 * g.val + l.val) / 16 = 8 * g.val + l.val / 16; omega)
  · rw [dif_neg (by show ¬((128 * g.val + l.val) / 16 < 16 ∧ (128 * g.val + l.val) % 16 < 12); omega), dif_neg h,
      hL _ _ (by show 12 ≤ (128 * g.val + l.val) % 16; omega), fptosi_zero]

/-- The rows as first zeroed. -/
theorem zeroed (v : View sig .tc .vmem S256x128 .f32) (f : v.ty.Contents (Elt Ideal)) (inb) (y : S256x128.Idx) :
    v.read (Elt Ideal) (v.writes (Elt Ideal) f
      [(⟨Rect.unit (s := S256x128) ![0, 0] ![256, 128] inb, k0_pay12 (F := Ideal)⟩ : View.Piece (Elt Ideal) S256x128 .f32)]) y = (0 : EReal) := by
  refine (View.read_writes_cons_unit_of_mem v f _ _ _ y y rfl fun a => by fin_cases a <;> simp).trans ?_
  pointwise [k0_pay12]

/-- Four blocks that tile the index scratch, read back. -/
theorem four_blocks (A B C D : IVec S1x1x128x128 32) (i0 i1 i2 i3) (p g : Fin 2) (t l : Fin 128) (w : BitVec 32)
    (hA : p = 0 → g = 0 → A (ix4 0 0 t l) = w) (hB : p = 0 → g = 1 → B (ix4 0 0 t l) = w)
    (hC : p = 1 → g = 0 → C (ix4 0 0 t l) = w) (hD : p = 1 → g = 1 → D (ix4 0 0 t l) = w) :
    View.canon (Val := Elt Ideal) (s := S2x2x128x128) (e := .i32)
      [⟨Rect.unit (s := S2x2x128x128) ![1, 1, 0, 0] ![1, 1, 128, 128] i3, D⟩,
        ⟨Rect.unit (s := S2x2x128x128) ![1, 0, 0, 0] ![1, 1, 128, 128] i2, C⟩,
        ⟨Rect.unit (s := S2x2x128x128) ![0, 1, 0, 0] ![1, 1, 128, 128] i1, B⟩,
        ⟨Rect.unit (s := S2x2x128x128) ![0, 0, 0, 0] ![1, 1, 128, 128] i0, A⟩] (ix4 p g t l) = w := by
  rw [← View.read_writes_junk_apply_eq_canon VS0_0]
  by_cases hp : p.val = 1
  · by_cases hg : g.val = 1
    · refine (View.read_writes_cons_unit_of_mem VS0_0 _ _ _ _ _ (ix4 0 0 t l) rfl fun a => ?_).trans (hD (Fin.ext hp) (Fin.ext hg))
      fin_cases a <;> simp [hp, hg]
    · refine (View.read_writes_cons_unit_of_not_mem VS0_0 _ _ _ _ _ rfl 1 (by show g.val < 1 ∨ 1 + 1 ≤ g.val; omega)).trans ?_
      have hg' : g.val = 0 := by omega
      refine (View.read_writes_cons_unit_of_mem VS0_0 _ _ _ _ _ (ix4 0 0 t l) rfl fun a => ?_).trans (hC (Fin.ext hp) (Fin.ext hg'))
      fin_cases a <;> simp [hp, hg']
  · have hp' : p.val = 0 := by omega
    refine (View.read_writes_cons_unit_of_not_mem VS0_0 _ _ _ _ _ rfl 0 (by show p.val < 1 ∨ 1 + 1 ≤ p.val; omega)).trans ?_
    refine (View.read_writes_cons_unit_of_not_mem VS0_0 _ _ _ _ _ rfl 0 (by show p.val < 1 ∨ 1 + 1 ≤ p.val; omega)).trans ?_
    by_cases hg : g.val = 1
    · refine (View.read_writes_cons_unit_of_mem VS0_0 _ _ _ _ _ (ix4 0 0 t l) rfl fun a => ?_).trans (hB (Fin.ext hp') (Fin.ext hg))
      fin_cases a <;> simp [hp', hg]
    · refine (View.read_writes_cons_unit_of_not_mem VS0_0 _ _ _ _ _ rfl 1 (by show g.val < 1 ∨ 1 + 1 ≤ g.val; omega)).trans ?_
      have hg' : g.val = 0 := by omega
      refine (View.read_writes_cons_unit_of_mem VS0_0 _ _ _ _ _ (ix4 0 0 t l) rfl fun a => ?_).trans (hA (Fin.ext hp') (Fin.ext hg'))
      fin_cases a <;> simp [hp', hg']

/-- The index scratch after the first step. -/
theorem sout0_A_0_apply (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : cond0_0 i) (hc1 : ¬cond0_1 i)
    (x0 : Vec Ideal S128x3072 .bf16) (x1 : Vec Ideal S4x192x3072 .bf16) (x2 : Vec Ideal S4x2x96x320 .bf16) (x3 : Vec Ideal S12x16x128 .i32) (x4 : Vec Ideal S12x16x128 .i32) (p g : Fin 2) (t l : Fin 128) :
    sout0_A_0 c i arg1 harg1 arg2 harg2 arg3 harg3 arg4 harg4 arg5 harg5 arg6 harg6 arg7 harg7 arg8 harg8 arg9 harg9 hc0 hc1 x0 x1 x2 x3 x4 (ix4 p g t l) = word (if p = 0 then x3 else x4) g t l := by
  unfold sout0_A_0
  frame_open
  frame_out
  have z0 : ∀ (a : Fin 256) (t : Fin 128), 12 ≤ a.val % 16 → arg9.view.read (Elt Ideal) (arg9.view.writes (Elt Ideal) arg9.view.junk
      [(⟨Rect.unit (s := S256x128) ![0, 0] ![256, 128] inb_S256x128_S256x128_0_0, k0_pay12 (F := Ideal)⟩ : View.Piece (Elt Ideal) S256x128 .f32)]) (ix2 a t) = (0 : EReal) :=
    fun a t _ => zeroed _ _ _ _
  have z1 : ∀ (a : Fin 256) (t : Fin 128), 12 ≤ a.val % 16 → arg9.view.read (Elt Ideal) (arg9.view.writes (Elt Ideal) arg9.view.junk
      (rowsTo x3 [(⟨Rect.unit (s := S256x128) ![0, 0] ![256, 128] inb_S256x128_S256x128_0_0, k0_pay12 (F := Ideal)⟩ : View.Piece (Elt Ideal) S256x128 .f32)] 16)) (ix2 a t) = (0 : EReal) := by
    intro a t h
    rw [rowsTo_read _ _ _ _ _ _ 16 (le_refl _), dif_neg (by omega)]
    exact zeroed _ _ _ _
  have at0 : ∀ l t : Fin 128, (Rect.unit (s := S256x128) ![0, 0] ![128, 128] inb_S256x128_S128x128_0_0).toLoadRect.idx (ix2 l t)
      = ix2 ⟨128 * (0 : Fin 2).val + l.val, by show 128 * 0 + l.val < 256; omega⟩ t := fun l t => funext fun a => Fin.ext (by
    fin_cases a
    · show 0 + 1 * l.val = 128 * 0 + l.val; omega
    · show 0 + 1 * t.val = t.val; omega)
  have at1 : ∀ l t : Fin 128, (Rect.unit (s := S256x128) ![128, 0] ![128, 128] inb_S256x128_S128x128_128_0).toLoadRect.idx (ix2 l t)
      = ix2 ⟨128 * (1 : Fin 2).val + l.val, by show 128 * 1 + l.val < 256; omega⟩ t := fun l t => funext fun a => Fin.ext (by
    fin_cases a
    · show 128 + 1 * l.val = 128 * 1 + l.val; omega
    · show 0 + 1 * t.val = t.val; omega)
  refine four_blocks _ _ _ _ _ _ _ _ p g t l _ ?_ ?_ ?_ ?_ <;> rintro rfl rfl
  · exact block_word arg9.view _ x3 _ z0 0 t l _ (congrArg (arg9.view.read (Elt Ideal) _) (at0 l t))
  · exact block_word arg9.view _ x3 _ z0 1 t l _ (congrArg (arg9.view.read (Elt Ideal) _) (at1 l t))
  · exact block_word arg9.view _ x4 _ z1 0 t l _ (congrArg (arg9.view.read (Elt Ideal) _) (at0 l t))
  · exact block_word arg9.view _ x4 _ z1 1 t l _ (congrArg (arg9.view.read (Elt Ideal) _) (at1 l t))

end Cert.KernelIdeal.Run
-- ==== Proof.Gate.lean ====
/- The gate of twelve picks, and the sub-key a word names. -/
module
public import Idealize.ShloMosaic.Lib.Pointwise
public import Idealize.ShloMosaic.PureOps.Ideal
@[expose] public section
noncomputable section
open Idealize.ShloMosaic

namespace Cert.Peer

/-- The softmax of twelve scores, over the extended reals. -/
def gate (r : Fin 12 → EReal) (k : Fin 12) : EReal :=
  Ideal.div (Ideal.exp (r k - Finset.univ.sup r)) (∑ k' : Fin 12, Ideal.exp (r k' - Finset.univ.sup r))

/-- The sub-key a word names. -/
def key (b : BitVec 32) : Fin 320 := ⟨min b.toNat 319, by omega⟩

/-- The largest of twelve numbers, taken one after the other. -/
theorem largest_twelve (r : Fin 12 → EReal) :
    max (max (max (max (max (max (max (max (max (max (max (r 0) (r 1)) (r 2)) (r 3)) (r 4)) (r 5)) (r 6)) (r 7)) (r 8)) (r 9)) (r 10)) (r 11)
      = Finset.univ.sup r := by
  refine le_antisymm ?_ (Finset.sup_le fun k _ => ?_)
  · repeat' apply max_le
    all_goals exact Finset.le_sup (f := r) (Finset.mem_univ _)
  · fin_cases k <;> simp [le_max_iff]

/-- The sum of twelve numbers, taken one after the other. -/
theorem sum_twelve (r : Fin 12 → EReal) :
    r 0 + r 1 + r 2 + r 3 + r 4 + r 5 + r 6 + r 7 + r 8 + r 9 + r 10 + r 11 = ∑ k, r k := by
  simp only [Fin.sum_univ_castSucc, Fin.sum_univ_zero, zero_add]
  rfl

end Cert.Peer
-- ==== Proof.Ideal.Softmax.lean ====
/- The gates the last step writes: row `16 k + h` of the output holds the gate of pick `k` of head `h`, token by token.
   The step lays the scores out by head and pick, takes the twelve picks' rows sixteen apart, and computes the softmax. -/
module
public import proofs.«01_k».proof.Proof.Gate
public import proofs.«01_k».proof.Proof.Ideal.Pick
@[expose] public section
set_option maxRecDepth 16384
noncomputable section
open Idealize.ShloMosaic Cert.KernelIdeal Cert.KernelIdeal.Gen Cert.KernelIdeal.Head Cert.Peer
namespace Cert.KernelIdeal.Run

/-- The scores of pick `k`, sixteen heads by 128 tokens, as the last step reads them back: every sixteenth row, from row
    `k`, of the two halves of the score scratch, transposed one under the other. -/
def strip (v : View sig .tc .vmem S256x128 .f32) (Y : Vec Ideal S2x128x128 .f32) (k : Fin 12) : Vec Ideal S16x128 .f32 :=
  v.readCov (Val := Elt Ideal)
    [⟨Rect.unit (s := S256x128) ![128, 0] ![128, 128] inb_S256x128_S128x128_128_0,
        k0_pay54 (F := Ideal) (View.ld Y (Rect.unit (s := S2x128x128) ![1, 0, 0] ![1, 128, 128] inb_S2x128x128_S1x128x128_1_0_0))⟩,
      ⟨Rect.unit (s := S256x128) ![0, 0] ![128, 128] inb_S256x128_S128x128_0_0,
        k0_pay53 (F := Ideal) (View.ld Y (Rect.unit (s := S2x128x128) ![0, 0, 0] ![1, 128, 128] inb_S2x128x128_S1x128x128_0_0_0))⟩]
    { off := ![k.val, 0], size := ![16, 128], stride := ![16, 1], inb := by
        intro a; fin_cases a
        · exact Or.inr (by show k.val + 16 * 15 < 256; omega)
        · exact Or.inr (by show 0 + 1 * 127 < 128; omega) }

theorem half_apply (Y : Vec Ideal S1x128x128 .f32) (l t : Fin 128) : k0_pay53 (F := Ideal) Y (ix2 l t) = Y (ix3 0 t l) := by
  pointwise [k0_pay53]

theorem strip_apply (v : View sig .tc .vmem S256x128 .f32) (Y : Vec Ideal S2x128x128 .f32) (k : Fin 12) (h : Fin 16) (t : Fin 128) :
    strip v Y k (ix2 h t) = Y (ix3 ⟨h.val / 8, by omega⟩ t ⟨16 * (h.val % 8) + k.val, by omega⟩) := by
  by_cases hh : h.val / 8 = 1
  · refine (View.read_writes_cons_unit_of_mem v _ _ _ _ _ (ix2 ⟨16 * (h.val % 8) + k.val, by omega⟩ t) rfl ?_).trans ?_
    · intro a; fin_cases a
      · show k.val + 16 * h.val = 128 + (16 * (h.val % 8) + k.val); omega
      · show 0 + 1 * t.val = 0 + t.val; omega
    · refine (half_apply _ _ _).trans (View.ld_unit_apply_of Y _ _ _ _ _ fun a => ?_)
      fin_cases a
      · show h.val / 8 = 1 + 0; omega
      · show t.val = 0 + t.val; omega
      · show 16 * (h.val % 8) + k.val = 0 + (16 * (h.val % 8) + k.val); omega
  · refine (View.read_writes_cons_unit_of_not_mem v _ _ _ _ _ rfl 0 ?_).trans ?_
    · show k.val + 16 * h.val < 128 ∨ 128 + 128 ≤ k.val + 16 * h.val
      omega
    refine (View.read_writes_cons_unit_of_mem v _ _ _ _ _ (ix2 ⟨16 * (h.val % 8) + k.val, by omega⟩ t) rfl ?_).trans ?_
    · intro a; fin_cases a
      · show k.val + 16 * h.val = 0 + (16 * (h.val % 8) + k.val); omega
      · show 0 + 1 * t.val = 0 + t.val; omega
    · refine (half_apply _ _ _).trans (View.ld_unit_apply_of Y _ _ _ _ _ fun a => ?_)
      fin_cases a
      · show h.val / 8 = 0 + 0; omega
      · show t.val = 0 + t.val; omega
      · show 16 * (h.val % 8) + k.val = 0 + (16 * (h.val % 8) + k.val); omega

variable (L : Fin 12 → Vec Ideal S16x128 .f32) (x : S16x128.Idx)

theorem max_apply : k0_pay55 (L 0) (L 1) (L 2) (L 3) (L 4) (L 5) (L 6) (L 7) (L 8) (L 9) (L 10) (L 11) x = Finset.univ.sup fun k => L k x := by
  rw [← largest_twelve]
  pointwise [k0_pay55]

/-- The exponential of one pick's score, less the largest. -/
def expAt (k : Fin 12) : EReal := Ideal.exp (L k x - Finset.univ.sup fun k => L k x)

theorem exp0_apply : k0_pay56 (L 0) (L 1) (L 2) (L 3) (L 4) (L 5) (L 6) (L 7) (L 8) (L 9) (L 10) (L 11) x = expAt L x 0 := by
  unfold expAt
  rw [← max_apply]
  rfl

theorem exp1_apply : k0_pay57 (L 0) (L 1) (L 2) (L 3) (L 4) (L 5) (L 6) (L 7) (L 8) (L 9) (L 10) (L 11) x = expAt L x 1 := by
  unfold expAt
  rw [← max_apply]
  rfl

theorem exp2_apply : k0_pay58 (L 0) (L 1) (L 2) (L 3) (L 4) (L 5) (L 6) (L 7) (L 8) (L 9) (L 10) (L 11) x = expAt L x 2 := by
  unfold expAt
  rw [← max_apply]
  rfl

theorem exp3_apply : k0_pay59 (L 0) (L 1) (L 2) (L 3) (L 4) (L 5) (L 6) (L 7) (L 8) (L 9) (L 10) (L 11) x = expAt L x 3 := by
  unfold expAt
  rw [← max_apply]
  rfl

theorem exp4_apply : k0_pay60 (L 0) (L 1) (L 2) (L 3) (L 4) (L 5) (L 6) (L 7) (L 8) (L 9) (L 10) (L 11) x = expAt L x 4 := by
  unfold expAt
  rw [← max_apply]
  rfl

theorem exp5_apply : k0_pay61 (L 0) (L 1) (L 2) (L 3) (L 4) (L 5) (L 6) (L 7) (L 8) (L 9) (L 10) (L 11) x = expAt L x 5 := by
  unfold expAt
  rw [← max_apply]
  rfl

theorem exp6_apply : k0_pay62 (L 0) (L 1) (L 2) (L 3) (L 4) (L 5) (L 6) (L 7) (L 8) (L 9) (L 10) (L 11) x = expAt L x 6 := by
  unfold expAt
  rw [← max_apply]
  rfl

theorem exp7_apply : k0_pay63 (L 0) (L 1) (L 2) (L 3) (L 4) (L 5) (L 6) (L 7) (L 8) (L 9) (L 10) (L 11) x = expAt L x 7 := by
  unfold expAt
  rw [← max_apply]
  rfl

theorem exp8_apply : k0_pay64 (L 0) (L 1) (L 2) (L 3) (L 4) (L 5) (L 6) (L 7) (L 8) (L 9) (L 10) (L 11) x = expAt L x 8 := by
  unfold expAt
  rw [← max_apply]
  rfl

theorem exp9_apply : k0_pay65 (L 0) (L 1) (L 2) (L 3) (L 4) (L 5) (L 6) (L 7) (L 8) (L 9) (L 10) (L 11) x = expAt L x 9 := by
  unfold expAt
  rw [← max_apply]
  rfl

theorem exp10_apply : k0_pay66 (L 0) (L 1) (L 2) (L 3) (L 4) (L 5) (L 6) (L 7) (L 8) (L 9) (L 10) (L 11) x = expAt L x 10 := by
  unfold expAt
  rw [← max_apply]
  rfl

theorem exp11_apply : k0_pay67 (L 0) (L 1) (L 2) (L 3) (L 4) (L 5) (L 6) (L 7) (L 8) (L 9) (L 10) (L 11) x = expAt L x 11 := by
  unfold expAt
  rw [← max_apply]
  rfl

theorem total_apply : k0_pay68 (L 0) (L 1) (L 2) (L 3) (L 4) (L 5) (L 6) (L 7) (L 8) (L 9) (L 10) (L 11) x = ∑ k, expAt L x k := by
  rw [← sum_twelve]
  simp only [← exp0_apply, ← exp1_apply, ← exp2_apply, ← exp3_apply, ← exp4_apply, ← exp5_apply, ← exp6_apply, ← exp7_apply,
    ← exp8_apply, ← exp9_apply, ← exp10_apply, ← exp11_apply]
  rfl

theorem gate0_apply : k0_pay69 (L 0) (L 1) (L 2) (L 3) (L 4) (L 5) (L 6) (L 7) (L 8) (L 9) (L 10) (L 11) x = gate (fun k => L k x) 0 := by
  show Ideal.div (k0_pay56 (L 0) (L 1) (L 2) (L 3) (L 4) (L 5) (L 6) (L 7) (L 8) (L 9) (L 10) (L 11) x) (k0_pay68 (L 0) (L 1) (L 2) (L 3) (L 4) (L 5) (L 6) (L 7) (L 8) (L 9) (L 10) (L 11) x) = _
  rw [exp0_apply, total_apply]
  rfl

theorem gate1_apply : k0_pay70 (L 0) (L 1) (L 2) (L 3) (L 4) (L 5) (L 6) (L 7) (L 8) (L 9) (L 10) (L 11) x = gate (fun k => L k x) 1 := by
  show Ideal.div (k0_pay57 (L 0) (L 1) (L 2) (L 3) (L 4) (L 5) (L 6) (L 7) (L 8) (L 9) (L 10) (L 11) x) (k0_pay68 (L 0) (L 1) (L 2) (L 3) (L 4) (L 5) (L 6) (L 7) (L 8) (L 9) (L 10) (L 11) x) = _
  rw [exp1_apply, total_apply]
  rfl

theorem gate2_apply : k0_pay71 (L 0) (L 1) (L 2) (L 3) (L 4) (L 5) (L 6) (L 7) (L 8) (L 9) (L 10) (L 11) x = gate (fun k => L k x) 2 := by
  show Ideal.div (k0_pay58 (L 0) (L 1) (L 2) (L 3) (L 4) (L 5) (L 6) (L 7) (L 8) (L 9) (L 10) (L 11) x) (k0_pay68 (L 0) (L 1) (L 2) (L 3) (L 4) (L 5) (L 6) (L 7) (L 8) (L 9) (L 10) (L 11) x) = _
  rw [exp2_apply, total_apply]
  rfl

theorem gate3_apply : k0_pay2 (k0_pay59 (L 0) (L 1) (L 2) (L 3) (L 4) (L 5) (L 6) (L 7) (L 8) (L 9) (L 10) (L 11)) (k0_pay68 (L 0) (L 1) (L 2) (L 3) (L 4) (L 5) (L 6) (L 7) (L 8) (L 9) (L 10) (L 11)) x = gate (fun k => L k x) 3 := by
  show Ideal.div (k0_pay59 (L 0) (L 1) (L 2) (L 3) (L 4) (L 5) (L 6) (L 7) (L 8) (L 9) (L 10) (L 11) x) (k0_pay68 (L 0) (L 1) (L 2) (L 3) (L 4) (L 5) (L 6) (L 7) (L 8) (L 9) (L 10) (L 11) x) = _
  rw [exp3_apply, total_apply]
  rfl

theorem gate4_apply : k0_pay3 (k0_pay60 (L 0) (L 1) (L 2) (L 3) (L 4) (L 5) (L 6) (L 7) (L 8) (L 9) (L 10) (L 11)) (k0_pay68 (L 0) (L 1) (L 2) (L 3) (L 4) (L 5) (L 6) (L 7) (L 8) (L 9) (L 10) (L 11)) x = gate (fun k => L k x) 4 := by
  show Ideal.div (k0_pay60 (L 0) (L 1) (L 2) (L 3) (L 4) (L 5) (L 6) (L 7) (L 8) (L 9) (L 10) (L 11) x) (k0_pay68 (L 0) (L 1) (L 2) (L 3) (L 4) (L 5) (L 6) (L 7) (L 8) (L 9) (L 10) (L 11) x) = _
  rw [exp4_apply, total_apply]
  rfl

theorem gate5_apply : k0_pay4 (k0_pay61 (L 0) (L 1) (L 2) (L 3) (L 4) (L 5) (L 6) (L 7) (L 8) (L 9) (L 10) (L 11)) (k0_pay68 (L 0) (L 1) (L 2) (L 3) (L 4) (L 5) (L 6) (L 7) (L 8) (L 9) (L 10) (L 11)) x = gate (fun k => L k x) 5 := by
  show Ideal.div (k0_pay61 (L 0) (L 1) (L 2) (L 3) (L 4) (L 5) (L 6) (L 7) (L 8) (L 9) (L 10) (L 11) x) (k0_pay68 (L 0) (L 1) (L 2) (L 3) (L 4) (L 5) (L 6) (L 7) (L 8) (L 9) (L 10) (L 11) x) = _
  rw [exp5_apply, total_apply]
  rfl

theorem gate6_apply : k0_pay5 (k0_pay62 (L 0) (L 1) (L 2) (L 3) (L 4) (L 5) (L 6) (L 7) (L 8) (L 9) (L 10) (L 11)) (k0_pay68 (L 0) (L 1) (L 2) (L 3) (L 4) (L 5) (L 6) (L 7) (L 8) (L 9) (L 10) (L 11)) x = gate (fun k => L k x) 6 := by
  show Ideal.div (k0_pay62 (L 0) (L 1) (L 2) (L 3) (L 4) (L 5) (L 6) (L 7) (L 8) (L 9) (L 10) (L 11) x) (k0_pay68 (L 0) (L 1) (L 2) (L 3) (L 4) (L 5) (L 6) (L 7) (L 8) (L 9) (L 10) (L 11) x) = _
  rw [exp6_apply, total_apply]
  rfl

theorem gate7_apply : k0_pay6 (k0_pay63 (L 0) (L 1) (L 2) (L 3) (L 4) (L 5) (L 6) (L 7) (L 8) (L 9) (L 10) (L 11)) (k0_pay68 (L 0) (L 1) (L 2) (L 3) (L 4) (L 5) (L 6) (L 7) (L 8) (L 9) (L 10) (L 11)) x = gate (fun k => L k x) 7 := by
  show Ideal.div (k0_pay63 (L 0) (L 1) (L 2) (L 3) (L 4) (L 5) (L 6) (L 7) (L 8) (L 9) (L 10) (L 11) x) (k0_pay68 (L 0) (L 1) (L 2) (L 3) (L 4) (L 5) (L 6) (L 7) (L 8) (L 9) (L 10) (L 11) x) = _
  rw [exp7_apply, total_apply]
  rfl

theorem gate8_apply : k0_pay7 (k0_pay64 (L 0) (L 1) (L 2) (L 3) (L 4) (L 5) (L 6) (L 7) (L 8) (L 9) (L 10) (L 11)) (k0_pay68 (L 0) (L 1) (L 2) (L 3) (L 4) (L 5) (L 6) (L 7) (L 8) (L 9) (L 10) (L 11)) x = gate (fun k => L k x) 8 := by
  show Ideal.div (k0_pay64 (L 0) (L 1) (L 2) (L 3) (L 4) (L 5) (L 6) (L 7) (L 8) (L 9) (L 10) (L 11) x) (k0_pay68 (L 0) (L 1) (L 2) (L 3) (L 4) (L 5) (L 6) (L 7) (L 8) (L 9) (L 10) (L 11) x) = _
  rw [exp8_apply, total_apply]
  rfl

theorem gate9_apply : k0_pay8 (k0_pay65 (L 0) (L 1) (L 2) (L 3) (L 4) (L 5) (L 6) (L 7) (L 8) (L 9) (L 10) (L 11)) (k0_pay68 (L 0) (L 1) (L 2) (L 3) (L 4) (L 5) (L 6) (L 7) (L 8) (L 9) (L 10) (L 11)) x = gate (fun k => L k x) 9 := by
  show Ideal.div (k0_pay65 (L 0) (L 1) (L 2) (L 3) (L 4) (L 5) (L 6) (L 7) (L 8) (L 9) (L 10) (L 11) x) (k0_pay68 (L 0) (L 1) (L 2) (L 3) (L 4) (L 5) (L 6) (L 7) (L 8) (L 9) (L 10) (L 11) x) = _
  rw [exp9_apply, total_apply]
  rfl

theorem gate10_apply : k0_pay9 (k0_pay66 (L 0) (L 1) (L 2) (L 3) (L 4) (L 5) (L 6) (L 7) (L 8) (L 9) (L 10) (L 11)) (k0_pay68 (L 0) (L 1) (L 2) (L 3) (L 4) (L 5) (L 6) (L 7) (L 8) (L 9) (L 10) (L 11)) x = gate (fun k => L k x) 10 := by
  show Ideal.div (k0_pay66 (L 0) (L 1) (L 2) (L 3) (L 4) (L 5) (L 6) (L 7) (L 8) (L 9) (L 10) (L 11) x) (k0_pay68 (L 0) (L 1) (L 2) (L 3) (L 4) (L 5) (L 6) (L 7) (L 8) (L 9) (L 10) (L 11) x) = _
  rw [exp10_apply, total_apply]
  rfl

theorem gate11_apply : k0_pay10 (k0_pay67 (L 0) (L 1) (L 2) (L 3) (L 4) (L 5) (L 6) (L 7) (L 8) (L 9) (L 10) (L 11)) (k0_pay68 (L 0) (L 1) (L 2) (L 3) (L 4) (L 5) (L 6) (L 7) (L 8) (L 9) (L 10) (L 11)) x = gate (fun k => L k x) 11 := by
  show Ideal.div (k0_pay67 (L 0) (L 1) (L 2) (L 3) (L 4) (L 5) (L 6) (L 7) (L 8) (L 9) (L 10) (L 11) x) (k0_pay68 (L 0) (L 1) (L 2) (L 3) (L 4) (L 5) (L 6) (L 7) (L 8) (L 9) (L 10) (L 11) x) = _
  rw [exp11_apply, total_apply]
  rfl

/-- The gate a piece of the output holds, at the piece's own index. -/
theorem piece_gate (v : View sig .tc .vmem S256x128 .f32) (Y : Vec Ideal S2x128x128 .f32) (n : Fin 192) (t : Fin 128) (k : Fin 12)
    (x : S16x128.Idx) (hn : n.val = 16 * k.val + (x 0).val) (ht : t.val = (x 1).val) :
    gate (fun k => strip v Y k x) k
      = gate (fun k' => Y (ix3 ⟨n.val % 16 / 8, by omega⟩ t ⟨16 * (n.val % 8) + k'.val, by omega⟩)) ⟨n.val / 16, by omega⟩ := by
  have hx : (x 0).val < 16 := (x 0).isLt
  have e : x = ix2 ⟨n.val % 16, by omega⟩ t := funext fun a => Fin.ext (by
    fin_cases a
    · show (x 0).val = n.val % 16; omega
    · exact ht.symm)
  refine (congrArg (fun r => gate r k) (funext fun k' => (congrArg (strip v Y k') e).trans
    ((strip_apply v Y k' ⟨n.val % 16, by omega⟩ t).trans (congrArg Y ?_)))).trans
    (congrArg (gate _) (Fin.ext (by show k.val = n.val / 16; omega)))
  congr 1
  exact Fin.ext (by show 16 * (n.val % 16 % 8) + k'.val = 16 * (n.val % 8) + k'.val; omega)

/-- The output window after the last step. -/
theorem out0_C_5_apply (c : Dev nD) (i : grid0.Coords) (arg1 : Memref sig .tc .vmem S128x3072 .bf16) (harg1 : arg1.IsWhole) (arg2 : Memref sig .tc .vmem S4x192x3072 .bf16) (harg2 : arg2.IsWhole) (arg3 : Memref sig .tc .vmem S4x2x96x320 .bf16) (harg3 : arg3.IsWhole) (arg4 : Memref sig .tc .vmem S12x16x128 .i32) (harg4 : arg4.IsWhole) (arg5 : Memref sig .tc .vmem S12x16x128 .i32) (harg5 : arg5.IsWhole) (arg6 : Memref sig .tc .vmem S192x128 .f32) (harg6 : arg6.IsWhole) (arg7 : Memref sig .tc .vmem S2x2x128x128 .i32) (harg7 : arg7.IsWhole) (arg8 : Memref sig .tc .vmem S2x128x128 .f32) (harg8 : arg8.IsWhole) (arg9 : Memref sig .tc .vmem S256x128 .f32) (harg9 : arg9.IsWhole) (hc0 : ¬cond0_0 i) (hc1 : cond0_1 i)
    (x0 : Vec Ideal S128x3072 .bf16) (x1 : Vec Ideal S4x192x3072 .bf16) (x2 : Vec Ideal S4x2x96x320 .bf16) (x3 : Vec Ideal S12x16x128 .i32) (x4 : Vec Ideal S12x16x128 .i32) (xs0 : Vec Ideal S2x2x128x128 .i32) (xs1 : Vec Ideal S2x128x128 .f32) (n : Fin 192) (t : Fin 128) :
    out0_C_5 c i arg1 harg1 arg2 harg2 arg3 harg3 arg4 harg4 arg5 harg5 arg6 harg6 arg7 harg7 arg8 harg8 arg9 harg9 hc0 hc1 x0 x1 x2 x3 x4 xs0 xs1 (ix2 n t)
      = gate (fun k' => stepped i x0 x1 x2 xs0 xs1 (ix3 ⟨n.val % 16 / 8, by omega⟩ t ⟨16 * (n.val % 8) + k'.val, by omega⟩)) ⟨n.val / 16, by omega⟩ := by
  unfold out0_C_5
  frame_open
  frame_out
  rw [head0_eq, head2_eq, head3_eq]
  generalize hX : View.read (Elt Ideal) arg8.view _ = Y
  have hY : Y = stepped i x0 x1 x2 xs0 xs1 := by
    rw [← hX]
    funext y
    refine (write_half arg8.view _ i _ [] y).trans ?_
    unfold stepped
    split
    · rfl
    · exact congrFun (harg8.read_unread xs1) y
  rw [← hY]
  clear hX hY
  canon_tiles x h
  · exact (gate11_apply (strip arg9.view Y) x).trans (piece_gate arg9.view Y n t 11 x h0 h1)
  · exact (gate10_apply (strip arg9.view Y) x).trans (piece_gate arg9.view Y n t 10 x h0 h1)
  · exact (gate9_apply (strip arg9.view Y) x).trans (piece_gate arg9.view Y n t 9 x h0 h1)
  · exact (gate8_apply (strip arg9.view Y) x).trans (piece_gate arg9.view Y n t 8 x h0 h1)
  · exact (gate7_apply (strip arg9.view Y) x).trans (piece_gate arg9.view Y n t 7 x h0 h1)
  · exact (gate6_apply (strip arg9.view Y) x).trans (piece_gate arg9.view Y n t 6 x h0 h1)
  · exact (gate5_apply (strip arg9.view Y) x).trans (piece_gate arg9.view Y n t 5 x h0 h1)
  · exact (gate4_apply (strip arg9.view Y) x).trans (piece_gate arg9.view Y n t 4 x h0 h1)
  · exact (gate3_apply (strip arg9.view Y) x).trans (piece_gate arg9.view Y n t 3 x h0 h1)
  · exact (gate2_apply (strip arg9.view Y) x).trans (piece_gate arg9.view Y n t 2 x h0 h1)
  · exact (gate1_apply (strip arg9.view Y) x).trans (piece_gate arg9.view Y n t 1 x h0 h1)
  · exact (gate0_apply (strip arg9.view Y) x).trans (piece_gate arg9.view Y n t 0 x (h0.trans (Nat.zero_add _).symm) h1)

end Cert.KernelIdeal.Run
-- ==== Proof.Reference.Layers.lean ====
/- The reference's result, in named layers: the sub-key score tables, the taking along the index arrays, and the
   softmax over the twelve picks of a head. -/
module
public import proofs.«01_k».proof.Proof.Gen.ReferenceIdeal.Run
@[expose] public section
set_option maxRecDepth 16384
noncomputable section
open Idealize.ShloMosaic Idealize.ShloMosaic.TcCoe Cert.ReferenceIdeal Cert.ReferenceIdeal.Gen
namespace Cert.ReferenceIdeal.Value
variable {F : FTy → Type} [FloatOps F]

/-- The queries: `x · w`, rounded to bf16. -/
def queries (x : FVec F S1x128x3072 .bf16) (w : FVec F S3072x16x192 .bf16) : FVec F S128x16x192 .bf16 :=
  truncf .bf16 (Host.dotGeneral dot_S128x3072_S3072x16x192_S128x16x192_1_0_0_12_n_n none
    (shapeCast S128x3072 x shapeCasts_S1x128x3072_S128x3072) w) bitsLt_bf16_f32

/-- The scores of every sub-key of the first part. -/
def table0 (x : FVec F S1x128x3072 .bf16) (w : FVec F S3072x16x192 .bf16) (K : FVec F S16x2x320x96 .bf16) :
    FVec F S128x16x320 .f32 :=
  transpose S128x16x320 [2, 0, 1] (Host.dotGeneral dot_S16x320x96_S128x16x96_S16x320x128_2_2_1_0_0_1 none
    (shapeCast S16x320x96 (extractStridedSlice S16x1x320x96 ![0, 0, 0, 0] K slices_S16x2x320x96_S16x1x320x96_0_0_0_0)
      shapeCasts_S16x1x320x96_S16x320x96)
    (extractStridedSlice S128x16x96 ![0, 0, 0] (queries x w) slices_S128x16x192_S128x16x96_0_0_0))
    transposes_S16x320x128_S128x16x320_2_0_1

/-- The scores of every sub-key of the second part. -/
def table1 (x : FVec F S1x128x3072 .bf16) (w : FVec F S3072x16x192 .bf16) (K : FVec F S16x2x320x96 .bf16) :
    FVec F S128x16x320 .f32 :=
  transpose S128x16x320 [2, 0, 1] (Host.dotGeneral dot_S16x320x96_S128x16x96_S16x320x128_2_2_1_0_0_1 none
    (shapeCast S16x320x96 (extractStridedSlice S16x1x320x96 ![0, 1, 0, 0] K slices_S16x2x320x96_S16x1x320x96_0_1_0_0)
      shapeCasts_S16x1x320x96_S16x320x96)
    (extractStridedSlice S128x16x96 ![0, 0, 96] (queries x w) slices_S128x16x192_S128x16x96_0_0_96))
    transposes_S16x320x128_S128x16x320_2_0_1

/-- An index array as the gather's start indices: negative ones wrapped round. -/
def starts (I : IVec S1x128x16x12 32) : IVec S128x16x12x1 32 :=
  shapeCast S128x16x12x1 (select (cmpi .slt (shapeCast S128x16x12 I shapeCasts_S1x128x16x12_S128x16x12)
      (broadcastInDim S128x16x12 ![] bcast_S_S128x16x12 (constantI S_ 32 0#32)))
    (addi (shapeCast S128x16x12 I shapeCasts_S1x128x16x12_S128x16x12)
      (broadcastInDim S128x16x12 ![] bcast_S_S128x16x12 (constantI S_ 32 320#32)))
    (shapeCast S128x16x12 I shapeCasts_S1x128x16x12_S128x16x12)) shapeCasts_S128x16x12_S128x16x12x1

/-- Which start indices name a sub-key. -/
def inRange (I : IVec S1x128x16x12 32) : IVec S128x16x12x1 1 :=
  andi (cmpi .sge (starts I) (broadcastInDim S128x16x12x1 ![] bcast_S_S128x16x12x1 (constantI S_ 32 0#32)))
    (cmpi .sle (starts I) (broadcastInDim S128x16x12x1 ![0, 1, 2, 3] bcast_S1x1x1x1_S128x16x12x1_0_1_2_3
      (broadcastInDim S1x1x1x1 ![3] bcast_S1_S1x1x1x1_3 (constantI S1 32 319#32))))

/-- A score table taken along an index array: NaN where the index names no sub-key. -/
def taken (s : FVec F S128x16x320 .f32) (I : IVec S1x128x16x12 32) : FVec F S128x16x12 .f32 :=
  select (Host.reduce IntOp.andi (inRange I) (constantI S_ 1 1#1) reducesTo_S128x16x12x1_S128x16x12_d3 h_S_)
    (Host.gather gather_S128x16x320_S128x16x12x1_S128x16x12_n_2_01_01_2_3_111 s (starts I))
    (broadcastInDim S128x16x12 ![] bcast_S_S128x16x12 (constant S_ .f32 2143289344#32))

/-- The scores of the picked experts. -/
def picked (x : FVec F S1x128x3072 .bf16) (w : FVec F S3072x16x192 .bf16) (K : FVec F S16x2x320x96 .bf16)
    (I J : IVec S1x128x16x12 32) : FVec F S128x16x12 .f32 :=
  addf (taken (table0 x w K) I) (taken (table1 x w K) J)

/-- A number per token and head, at each of the head's twelve picks. -/
def spread (v : FVec F S128x16 .f32) : FVec F S128x16x12 .f32 :=
  broadcastInDim S128x16x12 ![0, 1, 2] bcast_S128x16x1_S128x16x12_0_1_2
    (broadcastInDim S128x16x1 ![0, 1] bcast_S128x16_S128x16x1_0_1 v)

/-- The largest score of each head. -/
def largest (r : FVec F S128x16x12 .f32) : FVec F S128x16 .f32 :=
  maximumf (broadcastInDim S128x16 ![] bcast_S_S128x16 (constant S_ .f32 4286578688#32))
    (Host.reduce FloatOps.maximumf r (constant S_ .f32 4286578688#32) reducesTo_S128x16x12_S128x16_d2 h_S_)

/-- The exponentials of the scores less the largest of their head. -/
def exps (r : FVec F S128x16x12 .f32) : FVec F S128x16x12 .f32 := Host.exp (subf r (spread (largest r)))

/-- The softmax over the twelve picks of a head. -/
def softmax (r : FVec F S128x16x12 .f32) : FVec F S128x16x12 .f32 :=
  Host.divf (exps r) (spread (Host.reduceAdd (exps r) (constant S_ .f32 0#32) reducesTo_S128x16x12_S128x16_d2 h_S_))

/-- The softmax with the picks first and the tokens last, as rows of tokens. -/
def rows (g : FVec F S128x16x12 .f32) : FVec F S192x128 .f32 :=
  shapeCast S192x128 (transpose S12x16x128 [2, 1, 0] g transposes_S128x16x12_S12x16x128_2_1_0) shapeCasts_S12x16x128_S192x128

/-- The reference's result, by its layers. -/
theorem res_eq (m : (ℓ : Loc nD τ sig) → Buf (Elt F) ℓ) (c : Dev nD) :
    res_main_v30 m c = rows (softmax (picked (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))) := rfl

end Cert.ReferenceIdeal.Value
-- ==== Proof.Reference.Apply.lean ====
/- The reference's result at an index, over the extended reals, where every index names a sub-key. -/
module
public import proofs.«01_k».proof.Proof.Gate
public import proofs.«01_k».proof.Proof.Reference.Layers
public import Idealize.ShloMosaic.Lib.Pointwise
public import Idealize.ShloMosaic.Lib.ReduceAll
public import Idealize.ShloMosaic.PureOps.Ideal
public import Idealize.ShloMosaic.PureOps.Ideal.Laws
@[expose] public section
set_option maxRecDepth 16384
noncomputable section
open Idealize.ShloMosaic Idealize.ShloMosaic.TcCoe Cert.ReferenceIdeal Cert.ReferenceIdeal.Gen

namespace Cert.Peer

/-- Token `t`'s score at the first part's sub-key `n` of head `h`. -/
def sub0 (x : Vec Ideal S1x128x3072 .bf16) (w : Vec Ideal S3072x16x192 .bf16) (K : Vec Ideal S16x2x320x96 .bf16)
    (t : Fin 128) (h : Fin 16) (n : Fin 320) : EReal :=
  ∑ d : Fin 96, K (ix4 h 0 n d) * ∑ e : Fin 3072, x (ix3 0 t e) * w (ix3 e h ⟨d.val, by omega⟩)

/-- Token `t`'s score at the second part's sub-key `n` of head `h`. -/
def sub1 (x : Vec Ideal S1x128x3072 .bf16) (w : Vec Ideal S3072x16x192 .bf16) (K : Vec Ideal S16x2x320x96 .bf16)
    (t : Fin 128) (h : Fin 16) (n : Fin 320) : EReal :=
  ∑ d : Fin 96, K (ix4 h 1 n d) * ∑ e : Fin 3072, x (ix3 0 t e) * w (ix3 e h ⟨96 + d.val, by omega⟩)

/-- The score of pick `k` of head `h` at token `t`. -/
def score (x : Vec Ideal S1x128x3072 .bf16) (w : Vec Ideal S3072x16x192 .bf16) (K : Vec Ideal S16x2x320x96 .bf16)
    (I J : Vec Ideal S1x128x16x12 .i32) (t : Fin 128) (h : Fin 16) (k : Fin 12) : EReal :=
  sub0 x w K t h (key (I (ix4 0 t h k))) + sub1 x w K t h (key (J (ix4 0 t h k)))

end Cert.Peer

namespace Cert.ReferenceIdeal.Value
open Cert.Peer

variable (x : FVec Ideal S1x128x3072 .bf16) (w : FVec Ideal S3072x16x192 .bf16) (K : FVec Ideal S16x2x320x96 .bf16)
    (I J : IVec S1x128x16x12 32) (r : FVec Ideal S128x16x12 .f32) (j : S128x16x12.Idx)

theorem table0_apply (n : S128x16x320.Idx) : table0 x w K n = sub0 x w K (n 0) (n 1) (n 2) := by
  unfold table0 queries sub0
  pointwise

theorem table1_apply (n : S128x16x320.Idx) : table1 x w K n = sub1 x w K (n 0) (n 1) (n 2) := by
  unfold table1 queries sub1
  pointwise

/-- The comparison `b < 0` of a word below 320 fails. -/
theorem not_slt {b : BitVec 32} (h : b.toNat < 320) : IntOp.cmpi CmpIPredicate.slt b 0#32 = 0#1 := by
  have e : b.toInt = b.toNat := BitVec.toInt_eq_toNat_of_lt (by omega)
  have f : b.slt 0#32 = false := by
    rw [BitVec.slt, e]
    simp
  show BitVec.ofBool (b.slt 0#32) = 0#1
  rw [f]
  rfl

/-- The comparison `0 ≤ b` of a word below 320 holds. -/
theorem sge_zero {b : BitVec 32} (h : b.toNat < 320) : IntOp.cmpi CmpIPredicate.sge b 0#32 = 1#1 := by
  simp [IntOp.cmpi, BitVec.sle, BitVec.toInt_eq_toNat_of_lt (x := b) (by omega)]

/-- The comparison `b ≤ 319` of a word below 320 holds. -/
theorem sle_last {b : BitVec 32} (h : b.toNat < 320) : IntOp.cmpi CmpIPredicate.sle b 319#32 = 1#1 := by
  have e : b.toInt = b.toNat := BitVec.toInt_eq_toNat_of_lt (by omega)
  have f : b.sle 319#32 = true := by
    rw [BitVec.sle, e, show (319#32 : BitVec 32).toInt = 319 from by decide]
    exact decide_eq_true (by omega)
  show BitVec.ofBool (b.sle 319#32) = 1#1
  rw [f]
  rfl

theorem starts_apply (hI : ∀ n, (I n).toNat < 320) (n : S128x16x12x1.Idx) :
    starts I n = I (ix4 0 (n 0) (n 1) (n 2)) := by
  unfold starts
  pointwise
  rw [not_slt (hI _)]
  rfl

theorem inRange_apply (hI : ∀ n, (I n).toNat < 320) (n : S128x16x12x1.Idx) : inRange I n = 1#1 := by
  unfold inRange
  pointwise
  rw [starts_apply I hI, sge_zero (hI _), sle_last (hI _)]
  rfl

/-- The batched gather at an index: the operand at the start index, read signed and clamped. -/
theorem gather_apply (s : S128x16x320.Idx → EReal) (idx : IVec S128x16x12x1 32) :
    Host.gather gather_S128x16x320_S128x16x12x1_S128x16x12_n_2_01_01_2_3_111 s idx j
      = s (ix3 (j 0) (j 1) ⟨min (idx (ix4 (j 0) (j 1) (j 2) 0)).toInt.toNat 319, by omega⟩) := by
  unfold Host.gather
  congr 1
  funext a
  refine Fin.ext ?_
  show gather_S128x16x320_S128x16x12x1_S128x16x12_n_2_01_01_2_3_111.start j idx a
    + gather_S128x16x320_S128x16x12x1_S128x16x12_n_2_01_01_2_3_111.batchCoord j a
    + gather_S128x16x320_S128x16x12x1_S128x16x12_n_2_01_01_2_3_111.offCoord j a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (by simp [gather_S128x16x320_S128x16x12x1_S128x16x12_n_2_01_01_2_3_111]),
      GatherDims.offCoord_eq_zero _ _ _ (fun h => ((GatherDims.mem_sKept _ _).mp h).2 (by simp [gather_S128x16x320_S128x16x12x1_S128x16x12_n_2_01_01_2_3_111]))]
    simp only [Nat.zero_add, Nat.add_zero]
    unfold GatherDims.batchCoord
    rw [dif_pos (by simp [gather_S128x16x320_S128x16x12x1_S128x16x12_n_2_01_01_2_3_111])]
    rfl
  · rw [GatherDims.start_batching _ _ _ _ (by simp [gather_S128x16x320_S128x16x12x1_S128x16x12_n_2_01_01_2_3_111]),
      GatherDims.offCoord_eq_zero _ _ _ (fun h => ((GatherDims.mem_sKept _ _).mp h).2 (by simp [gather_S128x16x320_S128x16x12x1_S128x16x12_n_2_01_01_2_3_111]))]
    simp only [Nat.zero_add, Nat.add_zero]
    unfold GatherDims.batchCoord
    rw [dif_pos (by simp [gather_S128x16x320_S128x16x12x1_S128x16x12_n_2_01_01_2_3_111])]
    rfl
  · rw [GatherDims.batchCoord_eq_zero _ _ _ (fun h => by simp [gather_S128x16x320_S128x16x12x1_S128x16x12_n_2_01_01_2_3_111] at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S128x16x320_S128x16x12x1_S128x16x12_n_2_01_01_2_3_111.startIndexMap from List.mem_singleton.mpr rfl)]
    have hsi : gather_S128x16x320_S128x16x12x1_S128x16x12_n_2_01_01_2_3_111.siIdx j
        ⟨List.idxOf (2 : Fin 3) gather_S128x16x320_S128x16x12x1_S128x16x12_n_2_01_01_2_3_111.startIndexMap,
          List.idxOf_lt_length_iff.2 (List.mem_singleton.mpr rfl)⟩ = ix4 (j 0) (j 1) (j 2) 0 := by
      funext b; refine Fin.ext ?_
      match b with
      | ⟨0, _⟩ => rfl
      | ⟨1, _⟩ => rfl
      | ⟨2, _⟩ => rfl
      | ⟨3, _⟩ => rfl
    rw [hsi]
    rfl

theorem toInt_toNat {b : BitVec 32} (h : b.toNat < 320) : b.toInt.toNat = b.toNat := by
  rw [BitVec.toInt_eq_toNat_of_lt (by omega)]; rfl

theorem taken_apply (hI : ∀ n, (I n).toNat < 320) (s : FVec Ideal S128x16x320 .f32) :
    taken s I j = s (ix3 (j 0) (j 1) (key (I (ix4 0 (j 0) (j 1) (j 2))))) := by
  unfold taken
  show Scalar.select (Host.reduce IntOp.andi (inRange I) (constantI S_ 1 1#1) reducesTo_S128x16x12x1_S128x16x12_d3 h_S_ j)
    (Host.gather gather_S128x16x320_S128x16x12x1_S128x16x12_n_2_01_01_2_3_111 s (starts I) j) _ = _
  rw [Host.reduce_andi_one _ _ _ _ _ rfl (inRange_apply I hI), gather_apply]
  show s _ = s _
  refine congrArg (fun k : Fin 320 => s (ix3 (j 0) (j 1) k)) (Fin.ext ?_)
  show min (starts I _).toInt.toNat 319 = min _ 319
  rw [starts_apply I hI]
  exact congrArg (min · 319) (toInt_toNat (hI _))

theorem picked_apply (hI : ∀ n, (I n).toNat < 320) (hJ : ∀ n, (J n).toNat < 320) :
    picked x w K I J j = score x w K I J (j 0) (j 1) (j 2) := by
  unfold picked score
  show taken (table0 x w K) I j + taken (table1 x w K) J j = _
  rw [taken_apply I j hI, taken_apply J j hJ, table0_apply, table1_apply]
  rfl

/-- The constant −∞ of both maxima. -/
theorem ofBits_bot : Ideal.ofBits .f32 4286578688#32 = ⊥ := by
  simp [Ideal.ofBits, Ideal.ieee]

theorem largest_apply (n : S128x16.Idx) : largest r n = Finset.univ.sup fun k : Fin 12 => r (ix3 (n 0) (n 1) k) := by
  unfold largest
  pointwise
  rw [ofBits_bot]
  exact bot_sup_eq _

theorem softmax_apply : softmax r j = gate (fun k => r (ix3 (j 0) (j 1) k)) (j 2) := by
  unfold softmax exps spread gate
  pointwise
  rw [largest_apply]
  idx_vars j

/-- The reference's result at row `16 k + h` and token `t`. -/
theorem res_apply (m : (ℓ : Loc nD τ sig) → Buf (Elt Ideal) ℓ) (c : Dev nD)
    (hI : ∀ n : S1x128x16x12.Idx, ((m ((c.tc : Thread nD τ).loc main_arg3) : IVec S1x128x16x12 32) n).toNat < 320)
    (hJ : ∀ n : S1x128x16x12.Idx, ((m ((c.tc : Thread nD τ).loc main_arg4) : IVec S1x128x16x12 32) n).toNat < 320) (n : S192x128.Idx) :
    (res_main_v30 m c : S192x128.Idx → EReal) n
      = gate (fun k => score (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (n 1) ⟨(n 0).val % 16, by omega⟩ k) ⟨(n 0).val / 16, by have h : (n 0).val < 192 := (n 0).isLt; omega⟩ := by
  rw [res_eq]
  unfold rows
  pointwise
  rw [softmax_apply]
  simp only [picked_apply _ _ _ _ _ _ hI hJ]
  rfl

end Cert.ReferenceIdeal.Value
-- ==== Proof.Ideal.Sweep.lean ====
/- The score scratch over the four grid steps: after step `n` it holds the scores of the heads up to `4 n + 3`, the index
   scratch holds the two index arrays, and the result is the gate of the scores. -/
module
public import proofs.«01_k».proof.Proof.Ideal.Blocks
public import proofs.«01_k».proof.Proof.Ideal.Indices
public import proofs.«01_k».proof.Proof.Ideal.Softmax
public import proofs.«01_k».proof.Proof.Ideal.Pick
public import proofs.«01_k».proof.Proof.Reference.Apply
@[expose] public section
set_option maxRecDepth 16384
noncomputable section
open Idealize.ShloMosaic Idealize.ShloMosaic.TcCoe Cert.KernelIdeal Cert.KernelIdeal.Gen Cert.Peer
namespace Cert.KernelIdeal.Run
variable (m : (ℓ : Loc nD τ sig) → Buf (Elt Ideal) ℓ) (c : Dev nD)

/-- The five arguments. -/
abbrev argX : Vec Ideal S1x128x3072 .bf16 := m ((c : Thread nD τ).loc main_arg0)
abbrev argW : Vec Ideal S3072x16x192 .bf16 := m ((c : Thread nD τ).loc main_arg1)
abbrev argK : Vec Ideal S16x2x320x96 .bf16 := m ((c : Thread nD τ).loc main_arg2)
abbrev argI : Vec Ideal S1x128x16x12 .i32 := m ((c : Thread nD τ).loc main_arg3)
abbrev argJ : Vec Ideal S1x128x16x12 .i32 := m ((c : Thread nD τ).loc main_arg4)

/-- Token `a`'s score at the sub-keys `m0` and `m1` of head `h`. -/
def pairScore (a : Fin 128) (h : Fin 16) (m0 m1 : Fin 320) : EReal :=
  sub0 (argX m c) (argW m c) (argK m c) a h m0 + sub1 (argX m c) (argW m c) (argK m c) a h m1

/-- The word of an index argument that lane `l` of half `g` holds: twelve lanes of each sixteen are picks of head
    `8 g + l / 16`, the other four are zero. -/
def want (A : Vec Ideal S1x128x16x12 .i32) (g : Fin 2) (a l : Fin 128) : BitVec 32 :=
  if h : l.val % 16 < 12 then A (ix4 0 a ⟨8 * g.val + l.val / 16, by omega⟩ ⟨l.val % 16, h⟩) else 0#32

theorem coord : ∀ t : Fin cfg0.N, ((grid0.coords t) 0).val = t.val := (by decide +kernel : ∀ t : Fin grid0.N, _)

theorem want_lt (A : Vec Ideal S1x128x16x12 .i32) (hA : ∀ n, (A n).toNat < 320) (g : Fin 2) (a l : Fin 128) : (want A g a l).toNat < 320 := by
  unfold want
  split
  · exact hA _
  · decide

theorem word3 (t : Fin cfg0.N) (g : Fin 2) (a l : Fin 128) : word (iblk m c 3 t) g a l = want (argI m c) g a l := by
  unfold word want
  split
  · exact block3 m c t _ _ _
  · rfl

theorem word4 (t : Fin cfg0.N) (g : Fin 2) (a l : Fin 128) : word (iblk m c 4 t) g a l = want (argJ m c) g a l := by
  unfold word want
  split
  · exact block4 m c t _ _ _
  · rfl

/-- A step's own scores are the reference's. -/
theorem localScore_eq (t : Fin cfg0.N) (ht : t.val < 4) (a : Fin 128) (j : Fin 4) (m0 m1 : Fin 320) :
    localScore (iblk m c 0 t) (iblk m c 1 t) (iblk m c 2 t) a j m0 m1 = pairScore m c a ⟨4 * t.val + j.val, by omega⟩ m0 m1 := by
  unfold localScore pairScore sub0 sub1
  refine congrArg₂ (· + ·) ?_ ?_
  · refine Finset.sum_congr rfl fun d _ => ?_
    refine (mul_comm _ _).trans (congrArg₂ (· * ·) (block2 m c t ht _ _ _ _) (Finset.sum_congr rfl fun e _ => ?_))
    exact congrArg₂ (· * ·) (block0 m c t _ _) (block1 m c t ht _ _ _)
  · refine Finset.sum_congr rfl fun d _ => ?_
    refine (mul_comm _ _).trans (congrArg₂ (· * ·) (block2 m c t ht _ _ _ _) (Finset.sum_congr rfl fun e _ => ?_))
    exact congrArg₂ (· * ·) (block0 m c t _ _) (block1 m c t ht _ _ _)

/-- The index scratch after any step. -/
theorem indices : ∀ (n : ℕ) (hn : n < cfg0.N) (p g : Fin 2) (a l : Fin 128),
    (outsAt0 m c n hn).2.1 (ix4 p g a l) = want (if p = 0 then argI m c else argJ m c) g a l := by
  intro n
  induction n with
  | zero =>
    intro hn p g a l
    have e := outsAt0_A m c ⟨0, hn⟩ (Nat.zero_mod 4) (by show ¬0 % 4 = 3; omega)
    refine (congrArg (fun o => o.2.1 (ix4 p g a l)) e).trans ?_
    dsimp only
    refine (sout0_A_0_apply ..).trans ?_
    by_cases hp : p = 0
    · rw [if_pos hp, if_pos hp]; exact word3 ..
    · rw [if_neg hp, if_neg hp]; exact word4 ..
  | succ n ih =>
    intro hn p g a l
    have hN : n + 1 < 4 := lt_of_lt_of_eq hn N_0
    by_cases h3 : (n + 1) % 4 = 3
    · refine (congrArg (fun o => o.2.1 (ix4 p g a l)) (outsAt0_C m c ⟨n + 1, hn⟩ (by show ¬(n + 1) % 4 = 0; omega) h3)).trans ?_
      dsimp only
      exact ih _ p g a l
    · refine (congrArg (fun o => o.2.1 (ix4 p g a l)) (outsAt0_B m c ⟨n + 1, hn⟩ (by show ¬(n + 1) % 4 = 0; omega) h3)).trans ?_
      dsimp only
      exact ih _ p g a l

variable (hI : ∀ n : S1x128x16x12.Idx, (argI m c n).toNat < 320) (hJ : ∀ n : S1x128x16x12.Idx, (argJ m c n).toNat < 320)
include hI hJ

/-- One step's scratch: the step's four heads get their scores, the rest keeps what it held. -/
theorem step_apply (t : Fin cfg0.N) (idx : Vec Ideal S2x2x128x128 .i32) (old : Vec Ideal S2x128x128 .f32)
    (hidx : ∀ p g a l, idx (ix4 p g a l) = want (if p = 0 then argI m c else argJ m c) g a l) (g : Fin 2) (a l : Fin 128) :
    stepped (grid0.coords t) (iblk m c 0 t) (iblk m c 1 t) (iblk m c 2 t) idx old (ix3 g a l)
      = if (8 * g.val + l.val / 16) / 4 = t.val
        then pairScore m c a ⟨8 * g.val + l.val / 16, by omega⟩ (key (want (argI m c) g a l)) (key (want (argJ m c) g a l))
        else old (ix3 g a l) := by
  have ht : t.val < 4 := lt_of_lt_of_eq t.isLt N_0
  have k0 : (idx (ix4 0 g a l)).toNat = (key (want (argI m c) g a l)).val := by
    have h := want_lt (argI m c) hI g a l
    exact (congrArg BitVec.toNat (hidx 0 g a l)).trans (min_eq_left (b := 319) (Nat.le_of_lt_succ h)).symm
  have k1 : (idx (ix4 1 g a l)).toNat = (key (want (argJ m c) g a l)).val := by
    have h := want_lt (argJ m c) hJ g a l
    exact (congrArg BitVec.toNat (hidx 1 g a l)).trans (min_eq_left (b := 319) (Nat.le_of_lt_succ h)).symm
  refine (stepped_apply _ _ _ _ _ old g a l _ _ k0 k1).trans ?_
  rw [coord t]
  by_cases h : (8 * g.val + l.val / 16) / 4 = t.val
  · rw [if_pos h, if_pos h]
    refine (localScore_eq m c t ht _ _ _ _).trans ?_
    refine congrArg (fun z => pairScore m c a z _ _) (Fin.ext ?_)
    show 4 * t.val + l.val / 16 % 4 = 8 * g.val + l.val / 16
    omega
  · rw [if_neg h, if_neg h]

/-- The score scratch after step `n` of the first three: the scores of the heads done so far. -/
theorem scores : ∀ (n : ℕ) (hn : n < cfg0.N), n < 3 → ∀ (g : Fin 2) (a l : Fin 128), (8 * g.val + l.val / 16) / 4 ≤ n →
    (outsAt0 m c n hn).2.2 (ix3 g a l)
      = pairScore m c a ⟨8 * g.val + l.val / 16, by omega⟩ (key (want (argI m c) g a l)) (key (want (argJ m c) g a l)) := by
  intro n
  induction n with
  | zero =>
    intro hn _ g a l hle
    have e := outsAt0_A m c ⟨0, hn⟩ (Nat.zero_mod 4) (by show ¬0 % 4 = 3; omega)
    refine (congrArg (fun o => o.2.2 (ix3 g a l)) e).trans ?_
    dsimp only
    refine (sout0_A_1_eq ..).trans ?_
    refine (step_apply m c hI hJ ⟨0, hn⟩ _ _ (fun p g a l => ?_) g a l).trans (if_pos (Nat.le_zero.mp hle))
    refine (sout0_A_0_apply ..).trans ?_
    by_cases hp : p = 0
    · rw [if_pos hp, if_pos hp]; exact word3 ..
    · rw [if_neg hp, if_neg hp]; exact word4 ..
  | succ n ih =>
    intro hn h3 g a l hle
    refine (congrArg (fun o => o.2.2 (ix3 g a l)) (outsAt0_B m c ⟨n + 1, hn⟩ (by show ¬(n + 1) % 4 = 0; omega) (by show ¬(n + 1) % 4 = 3; omega))).trans ?_
    dsimp only
    refine (sout0_B_1_eq ..).trans ?_
    refine (step_apply m c hI hJ ⟨n + 1, hn⟩ _ _ (fun p g a l => indices m c n _ p g a l) g a l).trans ?_
    by_cases h : (8 * g.val + l.val / 16) / 4 = n + 1
    · exact if_pos h
    · exact (if_neg h).trans (ih _ (by omega) g a l (by omega))

/-- The array the kernel leaves, at row `16 k + h` and token `a`: the gate of the head's twelve scores. -/
theorem result_apply (n : Fin 192) (a : Fin 128) :
    (Value.G5 m c : S192x128.Idx → EReal) (ix2 n a)
      = gate (fun k => score (argX m c) (argW m c) (argK m c) (argI m c) (argJ m c) a ⟨n.val % 16, by omega⟩ k) ⟨n.val / 16, by omega⟩ := by
  have h3 : 3 < cfg0.N := lt_of_lt_of_eq (by decide) N_0.symm
  have e : Value.G5 m c = (outsAt0 m c 3 h3).1 :=
    (Value.G5_last m c).trans (congrArg (fun o => o.1) (Value.outsAt0_sweep m c 3 h3)).symm
  refine (congrFun e (ix2 n a)).trans ?_
  refine (congrArg (fun o => o.1 (ix2 n a)) (outsAt0_C m c ⟨3, h3⟩ (by show ¬3 % 4 = 0; omega) (by show 3 % 4 = 3; omega))).trans ?_
  dsimp only
  refine (out0_C_5_apply ..).trans ?_
  refine congrArg (fun f => gate f _) (funext fun k => ?_)
  refine (step_apply m c hI hJ ⟨3, h3⟩ _ _ (fun p g a l => indices m c 2 _ p g a l) _ _ _).trans ?_
  have hw : ∀ (A : Vec Ideal S1x128x16x12 .i32), want A ⟨n.val % 16 / 8, by omega⟩ a ⟨16 * (n.val % 8) + k.val, by omega⟩
      = A (ix4 0 a ⟨n.val % 16, by omega⟩ k) := by
    intro A
    unfold want
    rw [dif_pos (by show (16 * (n.val % 8) + k.val) % 16 < 12; omega)]
    refine congrArg A (congrArg₂ (fun (x : Fin 16) (y : Fin 12) => ix4 0 a x y) (Fin.ext ?_) (Fin.ext ?_))
    · show 8 * (n.val % 16 / 8) + (16 * (n.val % 8) + k.val) / 16 = n.val % 16; omega
    · show (16 * (n.val % 8) + k.val) % 16 = k.val; omega
  have hs : pairScore m c a ⟨8 * (n.val % 16 / 8) + (16 * (n.val % 8) + k.val) / 16, by omega⟩
      (key (want (argI m c) ⟨n.val % 16 / 8, by omega⟩ a ⟨16 * (n.val % 8) + k.val, by omega⟩))
      (key (want (argJ m c) ⟨n.val % 16 / 8, by omega⟩ a ⟨16 * (n.val % 8) + k.val, by omega⟩))
      = score (argX m c) (argW m c) (argK m c) (argI m c) (argJ m c) a ⟨n.val % 16, by omega⟩ k := by
    rw [hw, hw]
    unfold score
    exact congrArg (fun z => pairScore m c a z _ _) (Fin.ext (by show 8 * (n.val % 16 / 8) + (16 * (n.val % 8) + k.val) / 16 = n.val % 16; omega))
  refine Eq.trans ?_ hs
  by_cases h : (8 * (n.val % 16 / 8) + (16 * (n.val % 8) + k.val) / 16) / 4 = 3
  · exact if_pos h
  · exact (if_neg h).trans (scores m c hI hJ 2 _ (by decide) _ _ _ (by
      show (8 * (n.val % 16 / 8) + (16 * (n.val % 8) + k.val) / 16) / 4 ≤ 2
      omega))

end Cert.KernelIdeal.Run
-- ==== Proof.Claims.lean ====
/- The conjuncts of the certificate: the frames of the three programs, the idealization, and the equality of the gate
   the kernel leaves with the reference's. -/
module
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_indices_in_range
public import proofs.«01_k».proof.Proof.Bits.Frame
public import proofs.«01_k».proof.Proof.Ideal.Frame
public import proofs.«01_k».proof.Proof.Ideal.Value
public import proofs.«01_k».proof.Proof.Ideal.Sweep
public import proofs.«01_k».proof.Proof.Reference.Apply
public import Idealize.ShloMosaic.Lib.Claim
public import Idealize.ShloMosaic.Lib.Quiescent
public import Idealize.ShloMosaic.Lib.Pointwise
public import Idealize.ShloMosaic.Adequacy
public import Idealize.ShloMosaic.Init
@[expose] public section
set_option maxRecDepth 16384
noncomputable section
open Idealize.ShloMosaic Idealize.ShloMosaic.TcCoe Idealize.SL.Sem
namespace Cert.Claims

theorem quiescent_kernel : quiescent_Kernel (hKernel := Cert.Kernel.Gen.facts) :=
  fun m ρ _ => Cert.Kernel.Run.frame m ρ

theorem quiescent_kernelIdeal : quiescent_KernelIdeal (hKernelIdeal := Cert.KernelIdeal.Gen.facts) :=
  fun m ρ _ => Cert.KernelIdeal.Run.frame m ρ

theorem quiescent_kernelIdeal_in_range : quiescent_KernelIdeal_pre_indices_in_range (hKernelIdeal := Cert.KernelIdeal.Gen.facts)
    (hPre_indices_in_range := Cert.Pre_indices_in_range.Gen.facts) :=
  fun m ρ _ => Cert.KernelIdeal.Run.frame m ρ

theorem quiescent_referenceIdeal : quiescent_ReferenceIdeal (hReferenceIdeal := Cert.ReferenceIdeal.Gen.facts) := by
  intro m g _
  exact (θ_run Cert.ReferenceIdeal.defs _ _).mono
    (fun r h => ⟨fun c => (h c).2, sem_eq_zero_of_no_sems rfl r.2⟩) (Cert.ReferenceIdeal.Value.run (F := Ideal) m g)

theorem quiescent_referenceIdeal_in_range : quiescent_ReferenceIdeal_pre_indices_in_range (hReferenceIdeal := Cert.ReferenceIdeal.Gen.facts)
    (hPre_indices_in_range := Cert.Pre_indices_in_range.Gen.facts) :=
  fun m g _ => quiescent_referenceIdeal m g trivial

theorem preserves : preserves_Kernel_KernelIdeal := trivial

/-- A word in `[0, 320)` read with its sign is below 320 read without. -/
theorem lt_of_range {b : BitVec 32} (h0 : IntOp.cmpi .sge b 0#32 = 1#1) (h1 : IntOp.cmpi .slt b 320#32 = 1#1) : b.toNat < 320 := by
  have a0 : (0#32).sle b = true := by
    by_contra h
    simp_all [IntOp.cmpi]
  have a1 : b.slt 320#32 = true := by
    by_contra h
    simp_all [IntOp.cmpi]
  rw [BitVec.sle_iff_toInt_le] at a0
  rw [BitVec.slt_iff_toInt_lt] at a1
  have e0 : (0#32).toInt = 0 := by decide
  have e1 : (320#32).toInt = 320 := by decide
  rw [e0] at a0
  rw [e1] at a1
  rw [BitVec.toInt_eq_toNat_cond] at a0 a1
  split at a0 <;> omega

theorem and_one {a b : BitVec 1} (h : a &&& b = 1#1) : a = 1#1 ∧ b = 1#1 := by
  revert a b; decide

/-- What the precondition says of the two index arrays. -/
theorem in_range (m : (ℓ : Loc Cert.KernelIdeal.nD Cert.KernelIdeal.τ Cert.KernelIdeal.sig) → Buf (Elt Ideal) ℓ)
    (h : Pre_KernelIdeal_indices_in_range (hPre_indices_in_range := Cert.Pre_indices_in_range.Gen.facts) m) (c : Dev Cert.KernelIdeal.nD)
    (n : Cert.KernelIdeal.S1x128x16x12.Idx) :
    (Cert.KernelIdeal.Run.argI m c n).toNat < 320 ∧ (Cert.KernelIdeal.Run.argJ m c n).toNat < 320 := by
  have e := congrFun (h c) n
  obtain ⟨e, e3⟩ := and_one e
  obtain ⟨e, e2⟩ := and_one e
  obtain ⟨e0, e1⟩ := and_one e
  exact ⟨lt_of_range e0 e1, lt_of_range e2 e3⟩

/-- From arguments whose indices are in range, the kernel's gate is the reference's. -/
theorem algebraic : algebraic_KernelIdeal_ReferenceIdeal_pre_indices_in_range (hKernelIdeal := Cert.KernelIdeal.Gen.facts)
    (hReferenceIdeal := Cert.ReferenceIdeal.Gen.facts) (hPre_indices_in_range := Cert.Pre_indices_in_range.Gen.facts) := by
  intro m g m' g' hpre hagree
  refine ⟨fun c => Cert.KernelIdeal.Value.G5 m c, ?_, ?_⟩
  · exact Cert.KernelIdeal.Value.run (F := Ideal) m g
  · refine (θ_run Cert.ReferenceIdeal.defs _ _).mono (fun r h c => ⟨(h c).1.trans ?_, (h c).2⟩) (Cert.ReferenceIdeal.Value.run (F := Ideal) m' g')
    obtain ⟨a0, a1, a2, a3, a4⟩ := hagree c
    have hI := fun n => (in_range m hpre c n).1
    have hJ := fun n => (in_range m hpre c n).2
    funext n
    refine (Cert.ReferenceIdeal.Value.res_apply m' c (fun n => (congrArg (fun A : IVec Cert.KernelIdeal.S1x128x16x12 32 => (A n).toNat) a3).trans_lt (hI n))
      (fun n => (congrArg (fun A : IVec Cert.KernelIdeal.S1x128x16x12 32 => (A n).toNat) a4).trans_lt (hJ n)) n).trans ?_
    refine Eq.trans ?_ ((Cert.KernelIdeal.Run.result_apply m c hI hJ (n 0) (n 1)).symm.trans
      (congrArg (Cert.KernelIdeal.Value.G5 m c : Cert.KernelIdeal.S192x128.Idx → EReal) (ix2_eta n)))
    rw [a0, a1, a2, a3, a4]

end Cert.Claims
-- ==== Proof.lean ====
/-
  The proof of the certificate: the four programs' side conditions, and the seven conjuncts proved in `Proof/Claims.lean`.

  The kernel computes, for 128 tokens, 16 heads and 12 picks a head, the softmax over the picks of the sum of two scores:
  the token's projected query, cut in two, against the two sub-keys the pick's indices name. It visits four heads a grid
  step. The pieces are:
  * `Bits/` and `Ideal/` (`Offsets`, `Runs`, `RunA`, `RunB`, `RunC`, `Frame`): the kernel's runs, at bit patterns and over the
    extended reals; what they leave in the result and in the two carried scratch arrays.
  * `Ideal/Value`: the result array as a fold over the four steps.
  * `Ideal/Indices`: the first step lays both index arrays out lane by lane.
  * `Ideal/Head`, `Ideal/Steps`, `Ideal/Pick`: a step adds its four heads' picked scores to the score scratch.
  * `Ideal/Softmax`: the last step's softmax.
  * `Ideal/Blocks`, `Ideal/Sweep`: the four steps together, in terms of the arguments.
  * `Reference/`: the reference's result, element by element.
  * `Gate`: the softmax of twelve scores, shared by both sides.
-/
module

public import proofs.«01_k».proof.Defs
public import proofs.«01_k».proof.Proof.Claims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_indices_in_range.Gen.facts,
    Cert.Claims.quiescent_kernel, Cert.Claims.quiescent_kernelIdeal, Cert.Claims.quiescent_kernelIdeal_in_range,
    Cert.Claims.quiescent_referenceIdeal, Cert.Claims.quiescent_referenceIdeal_in_range,
    Cert.Claims.preserves, Cert.Claims.algebraic⟩

end Cert.Proof

end
